-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x512 : Shape := ⟨2, ![1024, 512]⟩
abbrev S8x64x512 : Shape := ⟨3, ![8, 64, 512]⟩
abbrev S8 : Shape := ⟨1, ![8]⟩
abbrev S_ : Shape := ⟨0, ![]⟩
abbrev S1 : Shape := ⟨1, ![1]⟩
abbrev S1x64x512 : Shape := ⟨3, ![1, 64, 512]⟩
abbrev S64x512 : Shape := ⟨2, ![64, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x1024x1024, .f32⟩
  | .hbm, ⟨1, _⟩ => ⟨S1024x512, .f32⟩
  | .local _ .vmem, ⟨0, _⟩ => ⟨S1x1024x1024, .f32⟩
  | .local _ .vmem, ⟨1, _⟩ => ⟨S1024x512, .f32⟩
  | .local _ .vmem, ⟨2, _⟩ => ⟨S8x64x512, .f32⟩
  | .local _ .vmem, ⟨3, _⟩ => ⟨S8x64x512, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v12 : BitVec 32 := Scalar.muli v9 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_11 : BitVec 32 := 4#32
  let v20 : BitVec 32 := Scalar.muli v10 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) (c0_i32_14 : BitVec 32) : Fin 3 → Nat :=
  let c0_i32_16 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  let v25 : BitVec 32 := Scalar.addi v24 c0_i32_14
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32_15 : BitVec 32 := 512#32
  let v26 : BitVec 32 := Scalar.muli v9 c512_i32_15
  ![0, v25.toNat, v26.toNat]
def k0_dev3 (d0 : Dev nD) : Nat :=
  let c0_i32_21 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_20 : BitVec 32 := 8#32
  let v27 : BitVec 32 := Scalar.muli v9 c8_i32_20
  let v28 : BitVec 32 := Scalar.addi c0_i32_21 v27
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_22 : BitVec 32 := 4#32
  let v29 : BitVec 32 := Scalar.muli v5 c4_i32_22
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v31 : BitVec 32 := Scalar.muli v8 c1_i32_23
  let v32 : BitVec 32 := Scalar.addi v30 v31
  v32.toNat
def k0_dev4 (d0 : Dev nD) : Nat :=
  let c0_i32_33 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_32 : BitVec 32 := 8#32
  let v44 : BitVec 32 := Scalar.muli v9 c8_i32_32
  let v45 : BitVec 32 := Scalar.addi c0_i32_33 v44
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v46 : BitVec 32 := Scalar.muli v5 c4_i32_34
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v48 : BitVec 32 := Scalar.muli v8 c1_i32_35
  let v49 : BitVec 32 := Scalar.addi v47 v48
  v49.toNat
def k0_dev5 (d0 : Dev nD) : Nat :=
  let c0_i32_45 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_44 : BitVec 32 := 8#32
  let v61 : BitVec 32 := Scalar.muli v9 c8_i32_44
  let v62 : BitVec 32 := Scalar.addi c0_i32_45 v61
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_46 : BitVec 32 := 4#32
  let v63 : BitVec 32 := Scalar.muli v5 c4_i32_46
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v65 : BitVec 32 := Scalar.muli v8 c1_i32_47
  let v66 : BitVec 32 := Scalar.addi v64 v65
  v66.toNat
def k0_dev6 (d0 : Dev nD) : Nat :=
  let c0_i32_56 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_55 : BitVec 32 := 8#32
  let v78 : BitVec 32 := Scalar.muli v9 c8_i32_55
  let v79 : BitVec 32 := Scalar.addi c0_i32_56 v78
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_57 : BitVec 32 := 4#32
  let v80 : BitVec 32 := Scalar.muli v5 c4_i32_57
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v82 : BitVec 32 := Scalar.muli v8 c1_i32_58
  let v83 : BitVec 32 := Scalar.addi v81 v82
  v83.toNat
def k0_dev7 (d0 : Dev nD) : Nat :=
  let c0_i32_68 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_67 : BitVec 32 := 8#32
  let v95 : BitVec 32 := Scalar.muli v9 c8_i32_67
  let v96 : BitVec 32 := Scalar.addi c0_i32_68 v95
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v97 : BitVec 32 := Scalar.muli v5 c4_i32_69
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v99 : BitVec 32 := Scalar.muli v8 c1_i32_70
  let v100 : BitVec 32 := Scalar.addi v98 v99
  v100.toNat
def k0_dev8 (d0 : Dev nD) : Nat :=
  let c0_i32_79 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_78 : BitVec 32 := 8#32
  let v112 : BitVec 32 := Scalar.muli v9 c8_i32_78
  let v113 : BitVec 32 := Scalar.addi c0_i32_79 v112
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v114 : BitVec 32 := Scalar.muli v5 c4_i32_80
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v116 : BitVec 32 := Scalar.muli v8 c1_i32_81
  let v117 : BitVec 32 := Scalar.addi v115 v116
  v117.toNat
def k0_dev9 (d0 : Dev nD) : Nat :=
  let c0_i32_90 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_89 : BitVec 32 := 8#32
  let v129 : BitVec 32 := Scalar.muli v9 c8_i32_89
  let v130 : BitVec 32 := Scalar.addi c0_i32_90 v129
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_91 : BitVec 32 := 4#32
  let v131 : BitVec 32 := Scalar.muli v5 c4_i32_91
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v133 : BitVec 32 := Scalar.muli v8 c1_i32_92
  let v134 : BitVec 32 := Scalar.addi v132 v133
  v134.toNat
def k0_dev10 (d0 : Dev nD) : Nat :=
  let c0_i32_101 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_100 : BitVec 32 := 8#32
  let v146 : BitVec 32 := Scalar.muli v9 c8_i32_100
  let v147 : BitVec 32 := Scalar.addi c0_i32_101 v146
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_102 : BitVec 32 := 4#32
  let v148 : BitVec 32 := Scalar.muli v5 c4_i32_102
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v150 : BitVec 32 := Scalar.muli v8 c1_i32_103
  let v151 : BitVec 32 := Scalar.addi v149 v150
  v151.toNat
def k0_dev11 (d0 : Dev nD) : Nat :=
  let c0_i32_121 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_120 : BitVec 32 := 8#32
  let v172 : BitVec 32 := Scalar.muli v2 c8_i32_120
  let v173 : BitVec 32 := Scalar.addi c0_i32_121 v172
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_122 : BitVec 32 := 4#32
  let v174 : BitVec 32 := Scalar.muli v10 c4_i32_122
  let v175 : BitVec 32 := Scalar.addi v173 v174
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v176 : BitVec 32 := Scalar.muli v8 c1_i32_123
  let v177 : BitVec 32 := Scalar.addi v175 v176
  v177.toNat
def k0_off2 (d0 : Dev nD) (c0_i32_129 : BitVec 32) : Fin 3 → Nat :=
  let c0 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_128 : BitVec 32 := 512#32
  let v186 : BitVec 32 := Scalar.muli v5 c512_i32_128
  let v187 : BitVec 32 := Scalar.addi v186 c0_i32_129
  let v189 : Index := Scalar.indexCast v187
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_130 : BitVec 32 := 512#32
  let v188 : BitVec 32 := Scalar.muli v2 c512_i32_130
  let v190 : Index := Scalar.indexCast v188
  ![0, v189.toNat, v190.toNat]
def k0_off3 (d0 : Dev nD) (c0_i32_129 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_128 : BitVec 32 := 512#32
  let v186 : BitVec 32 := Scalar.muli v5 c512_i32_128
  let v187 : BitVec 32 := Scalar.addi v186 c0_i32_129
  let v196 : Index := Scalar.indexCast v187
  let c0_134 : Index := 0#32
  ![v196.toNat, 0]
def k0_dev12 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v210 : BitVec 32 := Scalar.muli v2 c8_i32_149
  let v211 : BitVec 32 := Scalar.addi c0_i32_150 v210
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_151 : BitVec 32 := 4#32
  let v212 : BitVec 32 := Scalar.muli v10 c4_i32_151
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v214 : BitVec 32 := Scalar.muli v8 c1_i32_152
  let v215 : BitVec 32 := Scalar.addi v213 v214
  v215.toNat
def k0_dev13 (d0 : Dev nD) : Nat :=
  let c0_i32_179 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_178 : BitVec 32 := 8#32
  let v248 : BitVec 32 := Scalar.muli v2 c8_i32_178
  let v249 : BitVec 32 := Scalar.addi c0_i32_179 v248
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_180 : BitVec 32 := 4#32
  let v250 : BitVec 32 := Scalar.muli v10 c4_i32_180
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v252 : BitVec 32 := Scalar.muli v8 c1_i32_181
  let v253 : BitVec 32 := Scalar.addi v251 v252
  v253.toNat
def k0_dev14 (d0 : Dev nD) : Nat :=
  let c0_i32_208 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_207 : BitVec 32 := 8#32
  let v286 : BitVec 32 := Scalar.muli v2 c8_i32_207
  let v287 : BitVec 32 := Scalar.addi c0_i32_208 v286
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_209 : BitVec 32 := 4#32
  let v288 : BitVec 32 := Scalar.muli v10 c4_i32_209
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v290 : BitVec 32 := Scalar.muli v8 c1_i32_210
  let v291 : BitVec 32 := Scalar.addi v289 v290
  v291.toNat
def k0_dev15 (d0 : Dev nD) : Nat :=
  let c0_i32_237 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_236 : BitVec 32 := 8#32
  let v324 : BitVec 32 := Scalar.muli v2 c8_i32_236
  let v325 : BitVec 32 := Scalar.addi c0_i32_237 v324
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_238 : BitVec 32 := 4#32
  let v326 : BitVec 32 := Scalar.muli v10 c4_i32_238
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v328 : BitVec 32 := Scalar.muli v8 c1_i32_239
  let v329 : BitVec 32 := Scalar.addi v327 v328
  v329.toNat
def k0_dev16 (d0 : Dev nD) : Nat :=
  let c0_i32_266 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_265 : BitVec 32 := 8#32
  let v362 : BitVec 32 := Scalar.muli v2 c8_i32_265
  let v363 : BitVec 32 := Scalar.addi c0_i32_266 v362
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_267 : BitVec 32 := 4#32
  let v364 : BitVec 32 := Scalar.muli v10 c4_i32_267
  let v365 : BitVec 32 := Scalar.addi v363 v364
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v366 : BitVec 32 := Scalar.muli v8 c1_i32_268
  let v367 : BitVec 32 := Scalar.addi v365 v366
  v367.toNat
def k0_dev17 (d0 : Dev nD) : Nat :=
  let c0_i32_295 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_294 : BitVec 32 := 8#32
  let v400 : BitVec 32 := Scalar.muli v2 c8_i32_294
  let v401 : BitVec 32 := Scalar.addi c0_i32_295 v400
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_296 : BitVec 32 := 4#32
  let v402 : BitVec 32 := Scalar.muli v10 c4_i32_296
  let v403 : BitVec 32 := Scalar.addi v401 v402
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v404 : BitVec 32 := Scalar.muli v8 c1_i32_297
  let v405 : BitVec 32 := Scalar.addi v403 v404
  v405.toNat
def k0_dev18 (d0 : Dev nD) : Nat :=
  let c0_i32_324 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_323 : BitVec 32 := 8#32
  let v438 : BitVec 32 := Scalar.muli v2 c8_i32_323
  let v439 : BitVec 32 := Scalar.addi c0_i32_324 v438
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_325 : BitVec 32 := 4#32
  let v440 : BitVec 32 := Scalar.muli v10 c4_i32_325
  let v441 : BitVec 32 := Scalar.addi v439 v440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v442 : BitVec 32 := Scalar.muli v8 c1_i32_326
  let v443 : BitVec 32 := Scalar.addi v441 v442
  v443.toNat
def k0_off4 (d0 : Dev nD) (c0_i32_351 : BitVec 32) : Fin 3 → Nat :=
  let c0_353 : Index := 0#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c512_i32_350 : BitVec 32 := 512#32
  let v476 : BitVec 32 := Scalar.muli v10 c512_i32_350
  let v477 : BitVec 32 := Scalar.addi v476 c0_i32_351
  let v479 : Index := Scalar.indexCast v477
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_352 : BitVec 32 := 512#32
  let v478 : BitVec 32 := Scalar.muli v2 c512_i32_352
  let v480 : Index := Scalar.indexCast v478
  ![0, v479.toNat, v480.toNat]
def k0_off5 (d0 : Dev nD) (c0_i32_351 : BitVec 32) : Fin 2 → Nat :=
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c512_i32_350 : BitVec 32 := 512#32
  let v476 : BitVec 32 := Scalar.muli v10 c512_i32_350
  let v477 : BitVec 32 := Scalar.addi v476 c0_i32_351
  let v486 : Index := Scalar.indexCast v477
  let c0_357 : Index := 0#32
  ![v486.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
# The kernel body as five loops of steps

The body is straight-line text: the handshake, then for each of the eight row chunks the copy to the x peer, then for
each chunk the wait, the forwarding copy to the y peer and the sum over the received rows, then for each chunk the wait
and the sum over the forwarded rows, then the waits for the copies' own ends. This module names the step of each loop
with the chunk number as an argument and proves the printed body equal to the loops in order.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.AllReduce

open Cert.KernelIdeal Cert.KernelIdeal.Gen
open Idealize.ShloMosaic Idealize.SL.Sem

variable {F : FTy → Type} [FloatOps F]

/-! ## Buffers, views and semaphores, the chunk number an argument -/

/-- The staged input, the staged result, the buffer of rows received from the x peer, the one of rows from the y peer. -/
abbrev xM : Memref sig .tc .vmem S1x1024x1024 .f32 := Memref.whole cc0_stg0_0
abbrev oM : Memref sig .tc .vmem S1024x512 .f32 := Memref.whole cc0_stg1_0
abbrev xrM : Memref sig .tc .vmem S8x64x512 .f32 := Memref.whole cc0_scratch0
abbrev yrM : Memref sig .tc .vmem S8x64x512 .f32 := Memref.whole cc0_scratch1

/-- Chunk `k` lies inside a buffer of eight chunks, and semaphore `k` inside an array of eight. -/
theorem inbSlot (k : Fin 8) : ∀ a, (![k.val, 0, 0] : Fin 3 → Nat) a + S1x64x512.size a ≤ S8x64x512.size a := by
  revert k; decide
theorem inbSem (k : Fin 8) : ∀ a, (![k.val] : Fin 1 → Nat) a + S1.size a ≤ S8.size a := by revert k; decide

/-- Chunk `k` of a receive buffer, as a rectangle of it. -/
abbrev rSlot (k : Fin 8) : Rect S8x64x512 := Rect.unit (s := S8x64x512) ![k.val, 0, 0] S1x64x512.size (inbSlot k)
/-- The rectangle of the input device `c` sends as chunk `k`: its own half of the rows, the other half of the columns. -/
abbrev rSend (c : Dev nD) (k : Fin 8) : Rect S1x1024x1024 :=
  Rect.unit (s := S1x1024x1024) (k0_off1 c (BitVec.ofNat 32 (64 * k.val))) S1x64x512.size (k0_off1_inb c k)
/-- The rectangle of the input device `c` adds to the chunk `k` received from the x peer: its own half of the rows, its own
    half of the columns. -/
abbrev rOwn (c : Dev nD) (k : Fin 8) : Rect S1x1024x1024 :=
  Rect.unit (s := S1x1024x1024) (k0_off2 c (BitVec.ofNat 32 (64 * k.val))) S1x64x512.size (k0_off2_inb c k)
/-- The rectangle of the input device `c` adds to the chunk `k` received from the y peer: the other half of the rows. -/
abbrev rOth (c : Dev nD) (k : Fin 8) : Rect S1x1024x1024 :=
  Rect.unit (s := S1x1024x1024) (k0_off4 c (BitVec.ofNat 32 (64 * k.val))) S1x64x512.size (k0_off4_inb c k)
/-- The rectangles of the result the two sums are stored to. -/
abbrev rOutOwn (c : Dev nD) (k : Fin 8) : Rect S1024x512 :=
  Rect.unit (s := S1024x512) (k0_off3 c (BitVec.ofNat 32 (64 * k.val))) S64x512.size (k0_off3_inb c k)
abbrev rOutOth (c : Dev nD) (k : Fin 8) : Rect S1024x512 :=
  Rect.unit (s := S1024x512) (k0_off5 c (BitVec.ofNat 32 (64 * k.val))) S64x512.size (k0_off5_inb c k)

/-- Chunk `k` of the two receive buffers and the chunk of the input that is sent, as the memrefs the copies name. -/
abbrev xrS (k : Fin 8) : Memref sig .tc .vmem S64x512 .f32 := (xrM.slice (rSlot k) (fun _ => rfl)).squeeze S64x512 squeezes_S1x64x512_S64x512
abbrev yrS (k : Fin 8) : Memref sig .tc .vmem S64x512 .f32 := (yrM.slice (rSlot k) (fun _ => rfl)).squeeze S64x512 squeezes_S1x64x512_S64x512
abbrev xS (c : Dev nD) (k : Fin 8) : Memref sig .tc .vmem S64x512 .f32 := (xM.slice (rSend c k) (fun _ => rfl)).squeeze S64x512 squeezes_S1x64x512_S64x512

/-- Semaphore `k` of each of the four arrays. -/
abbrev semAt (A : DmaSems sig S8) (k : Fin 8) : DmaSem sig :=
  ((A.slice (Rect.unit (s := S8) ![k.val] S1.size (inbSem k))).squeeze S_ squeezes_S1_S_).sem

/-- The runtime's barrier semaphore. -/
abbrev barS : Sem sig := (SemArray.scalar (sig.barrier 0 rfl) : Sems sig S_).sem

/-- The device the `k`-th copy to the x peer is addressed to, and the `k`-th to the y peer. -/
def devX (c : Dev nD) : Fin 8 → Dev nD :=
  ![⟨k0_dev3 c, k0_dev3_lt c⟩, ⟨k0_dev4 c, k0_dev4_lt c⟩, ⟨k0_dev5 c, k0_dev5_lt c⟩, ⟨k0_dev6 c, k0_dev6_lt c⟩,
    ⟨k0_dev7 c, k0_dev7_lt c⟩, ⟨k0_dev8 c, k0_dev8_lt c⟩, ⟨k0_dev9 c, k0_dev9_lt c⟩, ⟨k0_dev10 c, k0_dev10_lt c⟩]
def devY (c : Dev nD) : Fin 8 → Dev nD :=
  ![⟨k0_dev11 c, k0_dev11_lt c⟩, ⟨k0_dev12 c, k0_dev12_lt c⟩, ⟨k0_dev13 c, k0_dev13_lt c⟩, ⟨k0_dev14 c, k0_dev14_lt c⟩,
    ⟨k0_dev15 c, k0_dev15_lt c⟩, ⟨k0_dev16 c, k0_dev16_lt c⟩, ⟨k0_dev17 c, k0_dev17_lt c⟩, ⟨k0_dev18 c, k0_dev18_lt c⟩]

/-- What is stored for a chunk: the chunk of the input plus the received chunk. -/
def sumPay (v w : Vec F S1x64x512 .f32) : FVec F S64x512 .f32 :=
  addf (shapeCast S64x512 v shapeCasts_S1x64x512_S64x512) (shapeCast S64x512 w shapeCasts_S1x64x512_S64x512)

/-! ## The steps -/

abbrev PG (F : FTy → Type) [FloatOps F] (α : Type) := Prog (TpuEff nD τ sig (Elt F) Λ₀ .tc) α

/-- The handshake: one signal to each peer's barrier semaphore, then a wait for two on the own one. -/
def barStep (c : Dev nD) : PG F PUnit := do
  semSignalWord (⟨k0_dev1 c, k0_dev1_lt c⟩ : Dev nD) barS 1#32
  semSignalWord (⟨k0_dev2 c, k0_dev2_lt c⟩ : Dev nD) barS 1#32
  semWaitWord barS 2#32

/-- The copy of chunk `k` to the device `n`. -/
def sendStep (c n : Dev nD) (k : Fin 8) : PG F PUnit :=
  Prog.lift (.enqueueDma (xS c k) (.remote (Dev.tc n) (xrS k) (.dma (semAt cc0_scratch2 k))) (.dma (semAt cc0_scratch3 k))
    ((View.wordExact_bits rfl).reshape _ _) ((View.wordExact_bits rfl).reshape _ _) ⟨⟨rfl, Or.inl rfl⟩, trivial⟩)

/-- The forwarding of chunk `k`: the wait for it, then its copy to the device `n`. -/
def fwdStep (c n : Dev nD) (k : Fin 8) : PG F PUnit := do
  Prog.lift (.waitDma2 (semAt cc0_scratch3 k) (xS c k) (xrS k) ((View.wordExact_bits rfl).reshape _ _) ((View.wordExact_bits rfl).reshape _ _))
  Prog.lift (.enqueueDma (xrS k) (.remote (Dev.tc n) (yrS k) (.dma (semAt cc0_scratch4 k))) (.dma (semAt cc0_scratch5 k))
    ((View.wordExact_bits rfl).reshape _ _) ((View.wordExact_bits rfl).reshape _ _) ⟨⟨rfl, Or.inl rfl⟩, trivial⟩)

/-- The sum over chunk `k` received from the x peer. -/
def addOwnStep (c : Dev nD) (k : Fin 8) : PG F PUnit := do
  let v ← Prog.lift (.load xM (rOwn c k).toLoadRect (View.loadsAt_vmem h_S1x64x512))
  let w ← Prog.lift (.load xrM (rSlot k).toLoadRect (View.loadsAt_vmem h_S1x64x512))
  let _ ← Prog.lift (.load oM (rOutOwn c k).toLoadRect (View.loadsAt_vmem h_S64x512))
  Prog.lift (.store oM (rOutOwn c k) (sumPay v w) Finset.univ (View.stores_vmem_bits_univ h_S64x512 rfl) (.inl rfl))

/-- The wait for chunk `k` from the y peer. -/
def waitYStep (k : Fin 8) : PG F PUnit :=
  Prog.lift (.waitDma2 (semAt cc0_scratch5 k) (xrS k) (yrS k) ((View.wordExact_bits rfl).reshape _ _) ((View.wordExact_bits rfl).reshape _ _))

/-- The sum over chunk `k` received from the y peer. -/
def addOthStep (c : Dev nD) (k : Fin 8) : PG F PUnit := do
  let v ← Prog.lift (.load xM (rOth c k).toLoadRect (View.loadsAt_vmem h_S1x64x512))
  let w ← Prog.lift (.load yrM (rSlot k).toLoadRect (View.loadsAt_vmem h_S1x64x512))
  let _ ← Prog.lift (.load oM (rOutOth c k).toLoadRect (View.loadsAt_vmem h_S64x512))
  Prog.lift (.store oM (rOutOth c k) (sumPay v w) Finset.univ (View.stores_vmem_bits_univ h_S64x512 rfl) (.inl rfl))

/-- The waits for the ends of the two copies of chunk `k` this device started. -/
def drainStep (c : Dev nD) (k : Fin 8) : PG F PUnit := do
  Prog.lift (.waitDma2 (semAt cc0_scratch2 k) (xrS k) (xS c k) ((View.wordExact_bits rfl).reshape _ _) ((View.wordExact_bits rfl).reshape _ _))
  Prog.lift (.waitDma2 (semAt cc0_scratch4 k) (yrS k) (xrS k) ((View.wordExact_bits rfl).reshape _ _) ((View.wordExact_bits rfl).reshape _ _))

/-- A step for each chunk, in order. -/
def each (f : Fin 8 → PG F PUnit) : PG F PUnit := do
  f 0; f 1; f 2; f 3; f 4; f 5; f 6; f 7

/-- The body from the device's number on. -/
def bodyAfter (c : Dev nD) : PG F PUnit := do
  barStep c
  each fun k => sendStep c (devX c k) k
  each fun k => do fwdStep c (devY c k) k; addOwnStep c k
  each fun k => do waitYStep k; addOthStep c k
  each fun k => drainStep c k

set_option maxRecDepth 100000 in
set_option maxHeartbeats 4000000 in
/-- The printed body asks for the device's number and is the five loops at it. -/
theorem body_eq :
    (cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) = .op .deviceId fun c => bodyAfter c := by
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel
  simp only [Prog.lift, Prog.bind_op, Prog.bind_ret, Prog.pure_eq_ret, bodyAfter, each, barStep, sendStep, fwdStep, addOwnStep, waitYStep,
    addOthStep, drainStep, semSignalWord, semWaitWord]
  rfl

end Cert.AllReduce
-- ==== Proof.Common.lean ====
/-
# The protocol of the kernel: peers, cells, contents, schedule, levels

Sixteen devices on a 2 x 2 x 4 mesh: device `c` has x coordinate `c / 8` and y coordinate `(c / 4) % 2`. A device's x peer
is the one with the other x coordinate, its y peer the one with the other y coordinate. Device `c` sends its x peer, for
each of eight chunks of 64 rows of its own half of the rows, the columns the peer is to reduce; forwards each chunk it
receives to its y peer; and stores the sum of its own rows and the received ones.

Every semaphore cell has one round. A barrier cell is paid by the two peers, each handing over its receive buffer; a
receive cell by the sender, with the received chunk; a send cell by the transfer, with the chunk that was read.
-/
module

public import proofs.«01_k».proof.Proof.Steps
public import Idealize.ShloMosaic.Lib.Pipeline.Launch
public import Idealize.ShloMosaic.Lib.Pipeline.Kit
public import Idealize.ShloMosaic.Lib.ViewIndex
public import Idealize.ShloMosaic.Lib.Tactic

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Two copies of the rounds algebra: the staging pipeline's and the protocol's, whose duties are told apart by a `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state before the launch: the memory `m`, every counter at zero. -/
def st₀ : MemSt nD τ sig (Elt F) := ⟨m, fun _ => 0, ρ⟩

/-! ## Peers -/

set_option backward.proofsInPublic true in
/-- The x peer: the other x coordinate. -/
def xp (c : Dev nD) : Dev nD :=
  ⟨(c.val + 8) % 16, Nat.mod_lt _ (by decide)⟩
set_option backward.proofsInPublic true in
/-- The y peer: the other y coordinate. -/
def yp (c : Dev nD) : Dev nD :=
  ⟨8 * (c.val / 8) + (c.val + 4) % 8, by have := c.isLt; have h : nD = 16 := rfl; have : (c.val + 4) % 8 < 8 := Nat.mod_lt _ (by decide); omega⟩

theorem xp_xp (c : Dev nD) : xp (xp c) = c := by revert c; decide
theorem yp_yp (c : Dev nD) : yp (yp c) = c := by revert c; decide
theorem xp_val (c : Dev nD) : (xp c).val = (c.val + 8) % 16 := rfl
theorem yp_val (c : Dev nD) : (yp c).val = 8 * (c.val / 8) + (c.val + 4) % 8 := rfl

/-- The two peer maps as permutations of the devices. -/
def xEquiv : Dev nD ≃ Dev nD := ⟨xp, xp, xp_xp, xp_xp⟩
def yEquiv : Dev nD ≃ Dev nD := ⟨yp, yp, yp_yp, yp_yp⟩

/-- The printed device numbers are the peers. -/
theorem dev1_eq (c : Dev nD) : (⟨k0_dev1 c, k0_dev1_lt c⟩ : Dev nD) = xp c := Fin.ext ((k0_dev1_eq c).trans (by revert c; decide))
theorem dev2_eq (c : Dev nD) : (⟨k0_dev2 c, k0_dev2_lt c⟩ : Dev nD) = yp c := Fin.ext ((k0_dev2_eq c).trans (by revert c; decide))
theorem devX_eq (c : Dev nD) (k : Fin 8) : devX c k = xp c := by revert c k; decide +kernel
theorem devY_eq (c : Dev nD) (k : Fin 8) : devY c k = yp c := by revert c k; decide +kernel

/-! ## Cells -/

/-- The four kinds of DMA semaphore, in the order of the kernel's arrays: sends to x, receives from x, sends to y,
    receives from y; `dq a k` is semaphore `k` of the array `a`. -/
def dq (a : Fin 4) (k : Fin 8) : DmaSem sig := ⟨2 + 8 * a.val + k.val, by have := a.isLt; have := k.isLt; show _ < 34; omega⟩

theorem semAt_xs (k : Fin 8) : semAt cc0_scratch2 k = dq 0 k := by revert k; decide
theorem semAt_xr (k : Fin 8) : semAt cc0_scratch3 k = dq 1 k := by revert k; decide
theorem semAt_ys (k : Fin 8) : semAt cc0_scratch4 k = dq 2 k := by revert k; decide
theorem semAt_yr (k : Fin 8) : semAt cc0_scratch5 k = dq 3 k := by revert k; decide

abbrev barCell (c : Dev nD) : GSem nD τ sig := ((c : Thread nD τ), .reg barS)
abbrev dCell (c : Dev nD) (a : Fin 4) (k : Fin 8) : GSem nD τ sig := ((c : Thread nD τ), .dma (dq a k))

/-- The kernel's own semaphores, and all those of the protocol (`none` the barrier). -/
abbrev osem : Fin 4 × Fin 8 → SemLoc sig := fun p => .dma (dq p.1 p.2)
def csem : Option (Fin 4 × Fin 8) → SemLoc sig
  | none => .reg barS
  | some p => .dma (dq p.1 p.2)
abbrev kcell (x : Dev nD × Option (Fin 4 × Fin 8)) : GSem nD τ sig := ((x.1 : Thread nD τ), csem x.2)

theorem dq_inj {a a' : Fin 4} {k k' : Fin 8} (h : dq a k = dq a' k') : a = a' ∧ k = k' := by
  have := congrArg Fin.val h
  simp only [dq] at this
  constructor <;> apply Fin.ext <;> omega

/-- The credit of one chunk, the same through every view of a chunk. -/
@[irreducible] def N : ℕ := (xrS (0 : Fin 8)).view.dmaCredit
theorem N_pos : 0 < N := by unfold N; exact View.dmaCredit_pos _ (by decide)
theorem credit_xr (k : Fin 8) : (xrS k).view.dmaCredit = N := by unfold N; rfl
theorem credit_yr (k : Fin 8) : (yrS k).view.dmaCredit = N := by unfold N; rfl
theorem credit_x (c : Dev nD) (k : Fin 8) : (xS c k).view.dmaCredit = N := by unfold N; rfl

/-! ## Contents -/

/-- The staged input of device `c`. -/
def xstg (c : Dev nD) : (cc0_stg0_0 : Ref sig .tc).ty.Contents (Elt F) :=
  (win0_0.blk (0 : Fin 1)).view.read (Elt F) ((st₀ m ρ).mem ((c : Thread nD τ).loc main_arg0))

/-- The index at row `r` and column `j` of an input. -/
def ixX (r j : ℕ) : S1x1024x1024.Idx := fun a => match a with
  | ⟨0, _⟩ => ⟨0, Nat.one_pos⟩
  | ⟨1, _⟩ => ⟨r % 1024, Nat.mod_lt _ (by decide)⟩
  | ⟨2, _⟩ => ⟨j % 1024, Nat.mod_lt _ (by decide)⟩

/-- Device `c`'s input at row `r` and column `j`. -/
def xat (c : Dev nD) (r j : ℕ) : Elt F .f32 := (xstg m ρ c : S1x1024x1024.Idx → Elt F .f32) (ixX r j)

omit [FloatOps F] in
theorem xstg_eq (c : Dev nD) (i : S1x1024x1024.Idx) (r j : ℕ) (hr : (i 1).val = r) (hj : (i 2).val = j) :
    (xstg m ρ c : S1x1024x1024.Idx → Elt F .f32) i = xat m ρ c r j := by
  unfold xat
  congr 1
  refine Shape.idx3_ext ?_ ?_ ?_
  · have : (i 0).val < 1 := (i 0).isLt
    show (i 0).val = 0; omega
  · have : (i 1).val < 1024 := (i 1).isLt
    show (i 1).val = r % 1024; rw [Nat.mod_eq_of_lt (by omega)]; exact hr
  · have : (i 2).val < 1024 := (i 2).isLt
    show (i 2).val = j % 1024; rw [Nat.mod_eq_of_lt (by omega)]; exact hj

/-- What device `c`'s buffer of rows from the x peer comes to hold, and its buffer of rows from the y peer. -/
def xrf (c : Dev nD) : (cc0_scratch0 : Ref sig .tc).ty.Contents (Elt F) := fun i : S8x64x512.Idx =>
  xat m ρ (xp c) (512 * (c.val / 4 % 2) + 64 * (i 0).val + (i 1).val) (512 * (c.val / 8) + (i 2).val)
def yrf (c : Dev nD) : (cc0_scratch1 : Ref sig .tc).ty.Contents (Elt F) := fun i : S8x64x512.Idx =>
  xat m ρ (xp (yp c)) (512 * ((yp c).val / 4 % 2) + 64 * (i 0).val + (i 1).val) (512 * (c.val / 8) + (i 2).val)

/-- Where device `c`'s second summand at row `r` comes from: its x peer for its own half of the rows, the x peer of its y
    peer for the other half. -/
def srcDev (c : Dev nD) (r : ℕ) : Dev nD := if r / 512 = c.val / 4 % 2 then xp c else xp (yp c)

/-- Device `c`'s result. -/
def outAt (c : Dev nD) : (cc0_stg1_0 : Ref sig .tc).ty.Contents (Elt F) := fun i : S1024x512.Idx =>
  FloatOps.addf (F := F) (φ := .f32) (xat m ρ c (i 0).val (512 * (c.val / 8) + (i 1).val))
    (xat m ρ (srcDev c (i 0).val) (i 0).val (512 * (c.val / 8) + (i 1).val))

/-! ## Points-tos of chunks -/

/-- Chunk `k` of device `c`'s two receive buffers, and the chunk of the input it sends, at a share and contents. -/
def xrPt (c : Dev nD) (k : Fin 8) (q : PosShare TreeShare) (f : (cc0_scratch0 : Ref sig .tc).ty.Contents (Elt F)) : sProp 𝕄 :=
  ((c : Thread nD τ).loc cc0_scratch0) ↦[(rSlot k).set]{q} f
def yrPt (c : Dev nD) (k : Fin 8) (q : PosShare TreeShare) (f : (cc0_scratch1 : Ref sig .tc).ty.Contents (Elt F)) : sProp 𝕄 :=
  ((c : Thread nD τ).loc cc0_scratch1) ↦[(rSlot k).set]{q} f
def xsPt (c : Dev nD) (k : Fin 8) : sProp 𝕄 :=
  ((c : Thread nD τ).loc cc0_stg0_0) ↦[(rSend c k).set]{fullShare.right} (xstg m ρ c)

omit [FloatOps F] in
instance xrPt_storable (c : Dev nD) (k q f) : BI.Storable (upEmb : UEmb _ 𝕄) (xrPt (F := F) c k q f) := by unfold xrPt; infer_instance
omit [FloatOps F] in
instance yrPt_storable (c : Dev nD) (k q f) : BI.Storable (upEmb : UEmb _ 𝕄) (yrPt (F := F) c k q f) := by unfold yrPt; infer_instance
omit [FloatOps F] in
instance xsPt_storable (c : Dev nD) (k) : BI.Storable (upEmb : UEmb _ 𝕄) (xsPt (F := F) m ρ c k) := by unfold xsPt; infer_instance

theorem xrS_set (k : Fin 8) : (xrS k).view.set = (rSlot k).set := by
  show (((View.whole cc0_scratch0).slice (rSlot k)).reshape S64x512 _).set = _
  rw [View.set_reshape, View.set_slice_whole]
theorem yrS_set (k : Fin 8) : (yrS k).view.set = (rSlot k).set := by
  show (((View.whole cc0_scratch1).slice (rSlot k)).reshape S64x512 _).set = _
  rw [View.set_reshape, View.set_slice_whole]
theorem xS_set (c : Dev nD) (k : Fin 8) : (xS c k).view.set = (rSend c k).set := by
  show (((View.whole cc0_stg0_0).slice (rSend c k)).reshape S64x512 _).set = _
  rw [View.set_reshape, View.set_slice_whole]

omit [FloatOps F] in
theorem xrPt_view (c : Dev nD) (k q) (f : (cc0_scratch0 : Ref sig .tc).ty.Contents (Elt F)) :
    ((xrS k).view.loc (c : Thread nD τ) ↦[(xrS k).view.set]{q} f : sProp 𝕄) = xrPt c k q f := by rw [xrS_set]; rfl
omit [FloatOps F] in
theorem yrPt_view (c : Dev nD) (k q) (f : (cc0_scratch1 : Ref sig .tc).ty.Contents (Elt F)) :
    ((yrS k).view.loc (c : Thread nD τ) ↦[(yrS k).view.set]{q} f : sProp 𝕄) = yrPt c k q f := by rw [yrS_set]; rfl
omit [FloatOps F] in
theorem xsPt_view (c : Dev nD) (k) :
    ((xS c k).view.loc (c : Thread nD τ) ↦[(xS c k).view.set]{fullShare.right} (xstg m ρ c) : sProp 𝕄) = xsPt m ρ c k := by rw [xS_set]; rfl

/-! ## The schedule -/

/-- What the x peer's signal hands `c`: all chunks of the x peer's buffer, whatever they hold. -/
def barPayX (c : Dev nD) : sProp 𝕄 := bigSep Finset.univ fun k : Fin 8 => iprop(∃ f, xrPt (xp c) k fullShare f)
/-- What the y peer's signal hands `c`: all chunks of the y peer's buffer, whatever they hold. -/
def barPayY (c : Dev nD) : sProp 𝕄 := bigSep Finset.univ fun k : Fin 8 => iprop(∃ f, yrPt (yp c) k fullShare f)

/-- What the landing on semaphore `k` of array `a` of device `c` hands over. -/
def dmaPay (c : Dev nD) (a : ℕ) (k : Fin 8) : sProp 𝕄 :=
  if a = 0 then xsPt m ρ c k
  else if a = 1 then xrPt c k fullShare (xrf m ρ c)
  else if a = 2 then xrPt c k fullShare.right (xrf m ρ c)
  else yrPt c k fullShare (yrf m ρ c)

omit [FloatOps F] in
instance dmaPay_storable (c : Dev nD) (a k) : BI.Storable (upEmb : UEmb _ 𝕄) (dmaPay (F := F) m ρ c a k) := by
  unfold dmaPay; (repeat' split) <;> infer_instance

/-- Which duties a semaphore's round 0 has: a barrier's two, one for a DMA semaphore of the kernel's own. -/
def dutiesOf : SemLoc sig → Finset Bool
  | .reg s => if s = barS then Finset.univ else ∅
  | .dma q => if 2 ≤ q.val then {false} else ∅
def amountOf : SemLoc sig → ℕ
  | .reg _ => 1
  | .dma _ => N
def payOf (c : Dev nD) : SemLoc sig → Bool → sProp 𝕄
  | .reg _, d => if d then barPayY c else barPayX c
  | .dma q, _ => dmaPay m ρ c ((q.val - 2) / 8) ⟨(q.val - 2) % 8, Nat.mod_lt _ (by decide)⟩

/-- The schedule: one round everywhere. -/
def sched : Rounds.Schedule (GSem nD τ sig) Bool 𝕄 where
  duties g r := if r = 0 ∧ g.1.2 = .tc then dutiesOf g.2 else ∅
  unitless _ := False
  amount g _ _ := amountOf g.2
  payload g _ d := payOf m ρ g.1.1 g.2 d
  amount_pos g _ _ _ := by
    rcases g with ⟨t, s | q⟩
    · exact Nat.one_pos
    · exact N_pos

omit [FloatOps F] in
instance payOf_storable (c : Dev nD) (s : SemLoc sig) (d : Bool) : BI.Storable (upEmb : UEmb _ 𝕄) (payOf (F := F) m ρ c s d) := by
  rcases s with s | q
  · show BI.Storable upEmb (if d then barPayY c else barPayX c)
    unfold barPayX barPayY
    split <;> infer_instance
  · show BI.Storable upEmb (dmaPay m ρ c _ _)
    infer_instance
omit [FloatOps F] in
instance sched_storable (g : GSem nD τ sig) (r : ℕ) (d : Bool) :
    BI.Storable (upEmb : UEmb _ 𝕄) ((sched (F := F) m ρ).payload g r d) := payOf_storable m ρ g.1.1 g.2 d

section Sched
omit [FloatOps F]
variable (c : Dev nD) (a : Fin 4) (k : Fin 8)

theorem duties_bar : (sched (F := F) m ρ).duties (barCell c) 0 = Finset.univ := by
  dsimp only [sched]; rw [if_pos (show (0 : ℕ) = 0 ∧ _ from ⟨rfl, rfl⟩)]; unfold dutiesOf; exact if_pos rfl
theorem duties_dma : (sched (F := F) m ρ).duties (dCell c a k) 0 = {false} := by
  dsimp only [sched]; rw [if_pos (show (0 : ℕ) = 0 ∧ _ from ⟨rfl, rfl⟩)]; exact if_pos (by show 2 ≤ 2 + 8 * a.val + k.val; omega)
theorem duties_later (g : GSem nD τ sig) : ∀ r, 1 ≤ r → (sched (F := F) m ρ).duties g r = ∅ :=
  fun r hr => if_neg fun h => by omega
theorem amount_bar (d : Bool) : (sched (F := F) m ρ).amount (barCell c) 0 d = 1 := rfl
theorem amount_dma (d : Bool) : (sched (F := F) m ρ).amount (dCell c a k) 0 d = N := rfl
theorem expect_bar : (sched (F := F) m ρ).expect (barCell c) 0 = 2 := by
  unfold Schedule.expect Schedule.amountOf
  rw [duties_bar]; rfl
theorem expect_dma : (sched (F := F) m ρ).expect (dCell c a k) 0 = N := by
  unfold Schedule.expect Schedule.amountOf
  rw [duties_dma, Finset.sum_singleton, amount_dma]
theorem payload_bar (d : Bool) : (sched (F := F) m ρ).payload (barCell c) 0 d = if d then barPayY c else barPayX c := rfl
theorem payload_dma (d : Bool) : (sched (F := F) m ρ).payload (dCell c a k) 0 d = dmaPay m ρ c a.val k := by
  show dmaPay m ρ c ((2 + 8 * a.val + k.val - 2) / 8) ⟨(2 + 8 * a.val + k.val - 2) % 8, _⟩ = _
  congr 1
  · omega
  · apply Fin.ext; show _ % 8 = k.val; omega
theorem rest_bar : bigSep ((sched (F := F) m ρ).duties (barCell c) 0 \ ∅) (fun d => (sched (F := F) m ρ).payload (barCell c) 0 d)
    = iprop(barPayX c ∗ barPayY c) := by
  rw [Finset.sdiff_empty, duties_bar, bigSep_univ_eq_bigSepL [false, true] (by decide) (by decide), bigSepL_cons_cons, bigSepL_singleton]
  rfl
theorem rest_dma : bigSep ((sched (F := F) m ρ).duties (dCell c a k) 0 \ ∅) (fun d => (sched (F := F) m ρ).payload (dCell c a k) 0 d)
    = dmaPay m ρ c a.val k := by
  rw [Finset.sdiff_empty, duties_dma, bigSep_singleton, payload_dma]
end Sched

/-! ## What is owed, and the levels -/

/-- The credit device `c` owes its x peer's receive cells for the chunks from `n` on, and its y peer's. -/
def OX (c : Dev nD) (n : ℕ) : CellTallies nD τ sig Unit := ∑ k : Fin 8 with n ≤ k.val, tallyAt (dCell (xp c) 1 k) () N
def OY (c : Dev nD) (n : ℕ) : CellTallies nD τ sig Unit := ∑ k : Fin 8 with n ≤ k.val, tallyAt (dCell (yp c) 3 k) () N
/-- What device `c` owes at launch, the first signal's unit last. -/
def O₁ (c : Dev nD) : CellTallies nD τ sig Unit := OX c 0 + OY c 0 + tallyAt (barCell (yp c)) () 1
def O₀ (c : Dev nD) : CellTallies nD τ sig Unit := O₁ c + tallyAt (barCell (xp c)) () 1

theorem filter_from (k : Fin 8) : (Finset.univ.filter fun j : Fin 8 => k.val ≤ j.val) = insert k (Finset.univ.filter fun j : Fin 8 => k.val + 1 ≤ j.val) := by
  ext j; simp only [Finset.mem_filter, Finset.mem_univ, true_and, Finset.mem_insert, Fin.ext_iff]; omega
theorem filter_notMem (k : Fin 8) : k ∉ (Finset.univ.filter fun j : Fin 8 => k.val + 1 ≤ j.val) := by
  simp only [Finset.mem_filter, Finset.mem_univ, true_and]; omega

theorem OX_step (c : Dev nD) (k : Fin 8) : OX c k.val = OX c (k.val + 1) + tallyAt (dCell (xp c) 1 k) () N := by
  unfold OX; rw [filter_from, Finset.sum_insert (filter_notMem k), add_comm]
theorem OY_step (c : Dev nD) (k : Fin 8) : OY c k.val = OY c (k.val + 1) + tallyAt (dCell (yp c) 3 k) () N := by
  unfold OY; rw [filter_from, Finset.sum_insert (filter_notMem k), add_comm]
theorem OX_end (c : Dev nD) : OX c 8 = 0 := by unfold OX; rw [Finset.filter_false_of_mem (fun k _ => by omega), Finset.sum_empty]
theorem OY_end (c : Dev nD) : OY c 8 = 0 := by unfold OY; rw [Finset.filter_false_of_mem (fun k _ => by omega), Finset.sum_empty]

def L (g : GSem nD τ sig) : Finset Unit := if g.1.2 = .tc then {()} else ∅
def lvOf : SemLoc sig → ℕ
  | .reg _ => 1
  | .dma q => if (q.val - 2) / 8 = 1 then 2 else if (q.val - 2) / 8 = 3 then 3 else 0
/-- The levels: staging and send cells 0, barriers 1, receives from x 2, receives from y 3. -/
def lv (g : GSem nD τ sig) (_ : Unit) : ℕ := lvOf g.2

theorem L_of_ne (g : GSem nD τ sig) (h : g.1.2 ≠ .tc) : L g = ∅ := if_neg h
theorem L_tc (g : GSem nD τ sig) (h : g.1.2 = .tc) : L g = {()} := if_pos h

theorem lv_dma (c : Dev nD) (a : Fin 4) (k : Fin 8) : lv (dCell c a k) () = if a.val = 1 then 2 else if a.val = 3 then 3 else 0 := by
  show (if (2 + 8 * a.val + k.val - 2) / 8 = 1 then 2 else if (2 + 8 * a.val + k.val - 2) / 8 = 3 then 3 else 0) = _
  rw [show (2 + 8 * a.val + k.val - 2) / 8 = a.val by omega]

/-- Every cell that `O` owes is a TensorCore's, at a level above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.pos_of_ne_zero (n := O g u + O' g u) (by omega) with _
  by_cases h0 : 0 < O g u
  · exact h g u h0
  · exact h' g u (by omega)
theorem Above.tally {n : ℕ} {g : GSem nD τ sig} {w : ℕ} (h : g.1.2 = .tc) (hn : n < lv g ()) : Above n (tallyAt g () w) := fun g' u hg => by
  rw [tallyAt_apply] at hg
  by_cases e : g' = g ∧ u = ()
  · rw [e.1]; exact ⟨h, hn⟩
  · rw [if_neg e] at hg; exact absurd hg (Nat.lt_irrefl 0)
theorem Above.sum {n : ℕ} {I : Type} [DecidableEq I] (S : Finset I) (O : I → CellTallies nD τ sig Unit) (h : ∀ i ∈ S, Above n (O i)) : Above n (∑ i ∈ S, O i) := by
  induction S using Finset.induction_on with
  | empty => rw [Finset.sum_empty]; exact Above.zero n
  | insert j S hj ih =>
    rw [Finset.sum_insert hj]
    exact (h j (Finset.mem_insert_self _ _)).add (ih fun i hi => h i (Finset.mem_insert_of_mem hi))

theorem above_OX (c : Dev nD) (n : ℕ) : Above 1 (OX c n) := Above.sum _ _ fun k _ => Above.tally rfl (by rw [lv_dma]; decide)
theorem above_OY (c : Dev nD) (n : ℕ) : Above 2 (OY c n) := Above.sum _ _ fun k _ => Above.tally rfl (by rw [lv_dma]; decide)
theorem Above.mono {n n' : ℕ} {O : CellTallies nD τ sig Unit} (h : Above n O) (hn : n' ≤ n) : Above n' O := fun g u hg =>
  ⟨(h g u hg).1, lt_of_le_of_lt hn (h g u hg).2⟩
theorem above_O₀ (c : Dev nD) : Above 0 (O₀ c) :=
  ((((above_OX c 0).mono (by decide)).add ((above_OY c 0).mono (by decide))).add (Above.tally rfl Nat.one_pos)).add (Above.tally rfl Nat.one_pos)

omit [FloatOps F] in
/-- A device may wait on a cell whose level every cell it owes is above. -/
theorem mayWait (c : Dev nD) (sm : SemLoc sig) (n : ℕ) (hsm : lvOf sm ≤ n) (O : CellTallies nD τ sig Unit) (h : Above n O) :
    (levAts L lv : sProp 𝕄) ⊢ MayWait (c : Thread nD τ) sm () O :=
  MayOwe.of_cut (L := L) (lev := lv) n
    (fun p hp => by rw [Finset.mem_singleton.mp hp, L_tc _ rfl]; exact Finset.mem_singleton_self _)
    (fun g u hg => by rw [L_tc _ (h g u hg).1]; exact Finset.mem_singleton_self _)
    (fun p hp => by rw [Finset.mem_singleton.mp hp]; exact hsm)
    (fun g u hg => (h g u hg).2)

end Cert.AllReduce
-- ==== Proof.Contents.lean ====
/-
# What the reads, the landings and the stores of one chunk amount to

Each fact is stated once for every device and every chunk number: where a rectangle's elements lie, what a chunk copied
from a peer leaves in the receive buffer, and what storing a chunk's sum does to the rows already summed.
-/
module

public import proofs.«01_k».proof.Proof.Common

@[expose] public section

noncomputable section

namespace Cert.AllReduce

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-! ## Where the elements of a rectangle lie -/

section Coords
variable (c : Dev nD) (k : Fin 8)

theorem slot_emb (y : (rSlot k).shape.Idx) :
    ((rSlot k).emb y 0).val = k.val + (y 0).val ∧ ((rSlot k).emb y 1).val = (y 1).val ∧ ((rSlot k).emb y 2).val = (y 2).val := by
  refine ⟨?_, ?_, ?_⟩
  · show k.val + 1 * (y 0).val = _; omega
  · show 0 + 1 * (y 1).val = _; omega
  · show 0 + 1 * (y 2).val = _; omega
theorem send_emb (y : (rSend c k).shape.Idx) :
    ((rSend c k).emb y 1).val = 512 * (c.val / 4 % 2) + 64 * k.val + (y 1).val ∧ ((rSend c k).emb y 2).val = 512 - 512 * (c.val / 8) + (y 2).val := by
  refine ⟨?_, ?_⟩
  · show k0_off1 c (BitVec.ofNat 32 (64 * k.val)) 1 + 1 * (y 1).val = _
    rw [k0_off1_eq, Nat.one_mul]; rfl
  · show k0_off1 c (BitVec.ofNat 32 (64 * k.val)) 2 + 1 * (y 2).val = _
    rw [k0_off1_eq, Nat.one_mul]; rfl
theorem own_emb (y : (rOwn c k).shape.Idx) :
    ((rOwn c k).emb y 1).val = 512 * (c.val / 4 % 2) + 64 * k.val + (y 1).val ∧ ((rOwn c k).emb y 2).val = 512 * (c.val / 8) + (y 2).val := by
  refine ⟨?_, ?_⟩
  · show k0_off2 c (BitVec.ofNat 32 (64 * k.val)) 1 + 1 * (y 1).val = _
    rw [k0_off2_eq, Nat.one_mul]; rfl
  · show k0_off2 c (BitVec.ofNat 32 (64 * k.val)) 2 + 1 * (y 2).val = _
    rw [k0_off2_eq, Nat.one_mul]; rfl
theorem oth_emb (y : (rOth c k).shape.Idx) :
    ((rOth c k).emb y 1).val = 64 * k.val + 512 - 512 * (c.val / 4 % 2) + (y 1).val ∧ ((rOth c k).emb y 2).val = 512 * (c.val / 8) + (y 2).val := by
  refine ⟨?_, ?_⟩
  · show k0_off4 c (BitVec.ofNat 32 (64 * k.val)) 1 + 1 * (y 1).val = _
    rw [k0_off4_eq, Nat.one_mul]; rfl
  · show k0_off4 c (BitVec.ofNat 32 (64 * k.val)) 2 + 1 * (y 2).val = _
    rw [k0_off4_eq, Nat.one_mul]; rfl
theorem outOwn_emb (z : (rOutOwn c k).shape.Idx) :
    ((rOutOwn c k).emb z 0).val = 512 * (c.val / 4 % 2) + 64 * k.val + (z 0).val ∧ ((rOutOwn c k).emb z 1).val = (z 1).val := by
  refine ⟨?_, ?_⟩
  · show k0_off3 c (BitVec.ofNat 32 (64 * k.val)) 0 + 1 * (z 0).val = _
    rw [k0_off3_eq, Nat.one_mul]; rfl
  · show k0_off3 c (BitVec.ofNat 32 (64 * k.val)) 1 + 1 * (z 1).val = _
    rw [k0_off3_eq, Nat.one_mul]; show 0 + (z 1).val = _; omega
theorem outOth_emb (z : (rOutOth c k).shape.Idx) :
    ((rOutOth c k).emb z 0).val = 64 * k.val + 512 - 512 * (c.val / 4 % 2) + (z 0).val ∧ ((rOutOth c k).emb z 1).val = (z 1).val := by
  refine ⟨?_, ?_⟩
  · show k0_off5 c (BitVec.ofNat 32 (64 * k.val)) 0 + 1 * (z 0).val = _
    rw [k0_off5_eq, Nat.one_mul]; rfl
  · show k0_off5 c (BitVec.ofNat 32 (64 * k.val)) 1 + 1 * (z 1).val = _
    rw [k0_off5_eq, Nat.one_mul]; show 0 + (z 1).val = _; omega

/-- An element of a receive buffer is in chunk `k` when its leading coordinate is `k`. -/
theorem mem_slot (i : S8x64x512.Idx) : i ∈ (rSlot k).set ↔ (i 0).val = k.val := by
  rw [Rect.mem_set_unit]
  constructor
  · intro h
    have := h 0
    have h1 : ![k.val, 0, 0] 0 = k.val := rfl
    have h2 : S1x64x512.size 0 = 1 := rfl
    rw [h1, h2] at this; omega
  · intro h a
    match a with
    | ⟨0, _⟩ => show k.val ≤ (i 0).val ∧ (i 0).val < k.val + 1; omega
    | ⟨1, _⟩ => have : (i 1).val < 64 := (i 1).isLt; show 0 ≤ (i 1).val ∧ (i 1).val < 0 + 64; omega
    | ⟨2, _⟩ => have : (i 2).val < 512 := (i 2).isLt; show 0 ≤ (i 2).val ∧ (i 2).val < 0 + 512; omega

/-- A row of the result is in the rectangle of the own-half chunk `k`, or of the other-half chunk, by its number. -/
theorem mem_outOwn (i : S1024x512.Idx) :
    i ∈ (rOutOwn c k).set ↔ 512 * (c.val / 4 % 2) + 64 * k.val ≤ (i 0).val ∧ (i 0).val < 512 * (c.val / 4 % 2) + 64 * k.val + 64 := by
  rw [Rect.mem_set_unit, k0_off3_eq]
  constructor
  · intro h; exact h 0
  · intro h a
    match a with
    | ⟨0, _⟩ => exact h
    | ⟨1, _⟩ => have : (i 1).val < 512 := (i 1).isLt; show 0 ≤ (i 1).val ∧ (i 1).val < 0 + 512; omega
theorem mem_outOth (i : S1024x512.Idx) :
    i ∈ (rOutOth c k).set ↔ 64 * k.val + 512 - 512 * (c.val / 4 % 2) ≤ (i 0).val ∧ (i 0).val < 64 * k.val + 512 - 512 * (c.val / 4 % 2) + 64 := by
  rw [Rect.mem_set_unit, k0_off5_eq]
  constructor
  · intro h; exact h 0
  · intro h a
    match a with
    | ⟨0, _⟩ => exact h
    | ⟨1, _⟩ => have : (i 1).val < 512 := (i 1).isLt; show 0 ≤ (i 1).val ∧ (i 1).val < 0 + 512; omega
end Coords

/-- The eight chunks of a receive buffer are disjoint and cover it; the eight chunks sent are disjoint. -/
theorem slot_disjoint (k k' : Fin 8) (h : k ≠ k') : Disjoint (rSlot k).set (rSlot k').set :=
  Finset.disjoint_left.mpr fun i hi hi' => h (Fin.ext (((mem_slot k i).mp hi).symm.trans ((mem_slot k' i).mp hi')))
theorem slot_cover : (Finset.univ.biUnion fun k : Fin 8 => (rSlot k).set) = (Finset.univ : Finset S8x64x512.Idx) := by
  ext i
  simp only [Finset.mem_biUnion, Finset.mem_univ, true_and, iff_true]
  exact ⟨⟨(i 0).val, (i 0).isLt⟩, (mem_slot _ i).mpr rfl⟩
theorem send_disjoint (c : Dev nD) (k k' : Fin 8) (h : k ≠ k') : Disjoint (rSend c k).set (rSend c k').set :=
  Finset.disjoint_left.mpr fun i hi hi' => h (by
    rw [Rect.mem_set_unit, k0_off1_eq] at hi hi'
    have h1 : 512 * (c.val / 4 % 2) + 64 * k.val ≤ (i 1).val ∧ (i 1).val < 512 * (c.val / 4 % 2) + 64 * k.val + 64 := hi 1
    have h2 : 512 * (c.val / 4 % 2) + 64 * k'.val ≤ (i 1).val ∧ (i 1).val < 512 * (c.val / 4 % 2) + 64 * k'.val + 64 := hi' 1
    apply Fin.ext; omega)

/-! ## Landings -/

omit [FloatOps F] in
/-- The x peer's chunk `k`, landed in chunk `k` of the receive buffer: the contents named `xrf`. -/
theorem land_x (c : Dev nD) (k : Fin 8) (fd : (cc0_scratch0 : Ref sig .tc).ty.Contents (Elt F)) :
    ∀ i ∈ (rSlot k).set, (xrS k).view.write (Elt F) fd ((xS (xp c) k).view.read (Elt F) (xstg m ρ (xp c))) Finset.univ i = xrf m ρ c i := by
  intro i hi
  rw [← Rect.map_emb_univ, Finset.mem_map] at hi
  obtain ⟨y, -, rfl⟩ := hi
  obtain ⟨x, rfl⟩ : ∃ x : S64x512.Idx, Shape.reshapeEquiv (squeezes_S1x64x512_S64x512.numel_eq) x = y := ⟨_, Equiv.apply_symm_apply _ y⟩
  refine (View.write_emb_of_mem (v := (xrS k).view) fd _ (Finset.mem_univ x)).trans ?_
  show (xstg m ρ (xp c) : S1x1024x1024.Idx → Elt F .f32) ((rSend (xp c) k).emb (Shape.reshapeEquiv squeezes_S1x64x512_S64x512.numel_eq x))
    = xrf m ρ c ((rSlot k).emb (Shape.reshapeEquiv squeezes_S1x64x512_S64x512.numel_eq x))
  generalize Shape.reshapeEquiv squeezes_S1x64x512_S64x512.numel_eq x = y
  have hs := slot_emb k y
  have hx := send_emb (xp c) k y
  have h0 : (y 0).val < 1 := (y 0).isLt
  have hc : c.val < 16 := c.isLt
  have hv := xp_val c
  refine xstg_eq m ρ (xp c) _ _ _ ?_ ?_
  · rw [hx.1, hs.1, hs.2.1]; omega
  · rw [hx.2, hs.2.2]; omega

omit [FloatOps F] in
/-- The y peer's chunk `k` of received rows, landed in chunk `k` of the second receive buffer: the contents named `yrf`. -/
theorem land_y (c : Dev nD) (k : Fin 8) (fd : (cc0_scratch1 : Ref sig .tc).ty.Contents (Elt F)) :
    ∀ i ∈ (rSlot k).set, (yrS k).view.write (Elt F) fd ((xrS k).view.read (Elt F) (xrf m ρ (yp c))) Finset.univ i = yrf m ρ c i := by
  intro i hi
  rw [← Rect.map_emb_univ, Finset.mem_map] at hi
  obtain ⟨y, -, rfl⟩ := hi
  obtain ⟨x, rfl⟩ : ∃ x : S64x512.Idx, Shape.reshapeEquiv (squeezes_S1x64x512_S64x512.numel_eq) x = y := ⟨_, Equiv.apply_symm_apply _ y⟩
  refine (View.write_emb_of_mem (v := (yrS k).view) fd _ (Finset.mem_univ x)).trans ?_
  show xrf m ρ (yp c) ((rSlot k).emb (Shape.reshapeEquiv squeezes_S1x64x512_S64x512.numel_eq x))
    = yrf m ρ c ((rSlot k).emb (Shape.reshapeEquiv squeezes_S1x64x512_S64x512.numel_eq x))
  have hc : c.val < 16 := c.isLt
  have hv := yp_val c
  unfold xrf yrf
  rw [show (yp c).val / 8 = c.val / 8 by omega]

/-! ## Loads, sums and stores -/

omit [FloatOps F] in
/-- The three loads of a chunk, element by element. -/
theorem load_own (c : Dev nD) (k : Fin 8) (y : S1x64x512.Idx) :
    xM.view.readAt (Elt F) (rOwn c k).toLoadRect (xstg m ρ c) y
      = xat m ρ c (512 * (c.val / 4 % 2) + 64 * k.val + (y 1).val) (512 * (c.val / 8) + (y 2).val) :=
  xstg_eq m ρ c _ _ _ (own_emb c k y).1 (own_emb c k y).2
omit [FloatOps F] in
theorem load_oth (c : Dev nD) (k : Fin 8) (y : S1x64x512.Idx) :
    xM.view.readAt (Elt F) (rOth c k).toLoadRect (xstg m ρ c) y
      = xat m ρ c (64 * k.val + 512 - 512 * (c.val / 4 % 2) + (y 1).val) (512 * (c.val / 8) + (y 2).val) :=
  xstg_eq m ρ c _ _ _ (oth_emb c k y).1 (oth_emb c k y).2
omit [FloatOps F] in
theorem load_xr (c : Dev nD) (k : Fin 8) (y : S1x64x512.Idx) :
    xrM.view.readAt (Elt F) (rSlot k).toLoadRect (xrf m ρ c) y
      = xat m ρ (xp c) (512 * (c.val / 4 % 2) + 64 * k.val + (y 1).val) (512 * (c.val / 8) + (y 2).val) := by
  show xrf m ρ c ((rSlot k).emb y) = _
  have hs := slot_emb k y
  have h0 : (y 0).val < 1 := (y 0).isLt
  unfold xrf
  rw [hs.1, hs.2.1, hs.2.2, show k.val + (y 0).val = k.val by omega]
omit [FloatOps F] in
theorem load_yr (c : Dev nD) (k : Fin 8) (y : S1x64x512.Idx) :
    yrM.view.readAt (Elt F) (rSlot k).toLoadRect (yrf m ρ c) y
      = xat m ρ (xp (yp c)) (64 * k.val + 512 - 512 * (c.val / 4 % 2) + (y 1).val) (512 * (c.val / 8) + (y 2).val) := by
  show yrf m ρ c ((rSlot k).emb y) = _
  have hs := slot_emb k y
  have h0 : (y 0).val < 1 := (y 0).isLt
  have hc : c.val < 16 := c.isLt
  have hv := yp_val c
  unfold yrf
  rw [hs.1, hs.2.1, hs.2.2, show 512 * ((yp c).val / 4 % 2) + 64 * (k.val + (y 0).val) + (y 1).val
    = 64 * k.val + 512 - 512 * (c.val / 4 % 2) + (y 1).val by omega]

/-- A chunk's sum at an element: the two operands there, added. -/
theorem sumPay_at (v w : Vec F S1x64x512 .f32) (z : S64x512.Idx) :
    ∃ y : S1x64x512.Idx, (y 1).val = (z 0).val ∧ (y 2).val = (z 1).val ∧ sumPay v w z = FloatOps.addf (v y) (w y) := by
  refine ⟨Shape.reshapeEquiv shapeCasts_S1x64x512_S64x512 z, ?_, ?_, rfl⟩
  · rw [show Shape.reshapeEquiv shapeCasts_S1x64x512_S64x512 z = Fin.cons ⟨0, Nat.one_pos⟩ z from Shape.reshapeEquiv_cons_one _ z]; rfl
  · rw [show Shape.reshapeEquiv shapeCasts_S1x64x512_S64x512 z = Fin.cons ⟨0, Nat.one_pos⟩ z from Shape.reshapeEquiv_cons_one _ z]; rfl

/-- The result's rows of the own half below chunk `n` are final; and those of the other half. -/
def OwnDone (c : Dev nD) (n : ℕ) (f : (cc0_stg1_0 : Ref sig .tc).ty.Contents (Elt F)) : Prop :=
  ∀ i : S1024x512.Idx, 512 * (c.val / 4 % 2) ≤ (i 0).val → (i 0).val < 512 * (c.val / 4 % 2) + 64 * n → f i = outAt m ρ c i
def OthDone (c : Dev nD) (n : ℕ) (f : (cc0_stg1_0 : Ref sig .tc).ty.Contents (Elt F)) : Prop :=
  OwnDone m ρ c 8 f ∧ ∀ i : S1024x512.Idx, 512 - 512 * (c.val / 4 % 2) ≤ (i 0).val → (i 0).val < 512 - 512 * (c.val / 4 % 2) + 64 * n → f i = outAt m ρ c i

theorem ownDone_zero (c : Dev nD) (f) : OwnDone m ρ c 0 f := fun i h h' => absurd h' (by omega)
theorem othDone_zero (c : Dev nD) (f) (h : OwnDone m ρ c 8 f) : OthDone m ρ c 0 f := ⟨h, fun i h h' => absurd h' (by omega)⟩
/-- With both halves done the contents are the result. -/
theorem othDone_eq (c : Dev nD) (f) (h : OthDone m ρ c 8 f) : f = outAt m ρ c := by
  funext i
  have hi : ((i : S1024x512.Idx) 0).val < 1024 := ((i : S1024x512.Idx) 0).isLt
  by_cases h1 : 512 * (c.val / 4 % 2) ≤ ((i : S1024x512.Idx) 0).val ∧ ((i : S1024x512.Idx) 0).val < 512 * (c.val / 4 % 2) + 64 * 8
  · exact h.1 i h1.1 h1.2
  · exact h.2 i (by omega) (by omega)

/-- Storing the own-half sum of chunk `k` extends the own half by that chunk. -/
theorem store_own (c : Dev nD) (k : Fin 8) (f : (cc0_stg1_0 : Ref sig .tc).ty.Contents (Elt F)) (h : OwnDone m ρ c k.val f) :
    OwnDone m ρ c (k.val + 1) ((oM.access (rOutOwn c k)).write (Elt F) f
      (sumPay (xM.view.readAt (Elt F) (rOwn c k).toLoadRect (xstg m ρ c)) (xrM.view.readAt (Elt F) (rSlot k).toLoadRect (xrf m ρ c))) Finset.univ) := by
  intro i h1 h2
  by_cases hi : i ∈ (rOutOwn c k).set
  · rw [← Rect.map_emb_univ, Finset.mem_map] at hi
    obtain ⟨z, -, rfl⟩ := hi
    refine (View.write_emb_of_mem (v := oM.access (rOutOwn c k)) f _ (Finset.mem_univ z)).trans ?_
    obtain ⟨y, hy1, hy2, hy⟩ := sumPay_at (xM.view.readAt (Elt F) (rOwn c k).toLoadRect (xstg m ρ c)) (xrM.view.readAt (Elt F) (rSlot k).toLoadRect (xrf m ρ c)) z
    have hz := outOwn_emb c k z
    have hz0 : (z 0).val < 64 := (z 0).isLt
    show sumPay _ _ z = _
    rw [hy, load_own, load_xr]
    unfold outAt srcDev
    rw [hz.1, hz.2, hy1, hy2, if_pos (by omega)]
  · rw [View.write_of_not_mem _ _ _ (by
      show i ∉ ((View.whole cc0_stg1_0).slice (rOutOwn c k)).set
      rw [View.set_slice_whole]; exact hi)]
    rw [mem_outOwn] at hi
    exact h i h1 (by omega)

/-- Storing the other-half sum of chunk `k` extends the other half by that chunk and leaves the own half. -/
theorem store_oth (c : Dev nD) (k : Fin 8) (f : (cc0_stg1_0 : Ref sig .tc).ty.Contents (Elt F)) (h : OthDone m ρ c k.val f) :
    OthDone m ρ c (k.val + 1) ((oM.access (rOutOth c k)).write (Elt F) f
      (sumPay (xM.view.readAt (Elt F) (rOth c k).toLoadRect (xstg m ρ c)) (yrM.view.readAt (Elt F) (rSlot k).toLoadRect (yrf m ρ c))) Finset.univ) := by
  have hoff : ∀ i : S1024x512.Idx, i ∉ (rOutOth c k).set → (oM.access (rOutOth c k)).write (Elt F) f
      (sumPay (xM.view.readAt (Elt F) (rOth c k).toLoadRect (xstg m ρ c)) (yrM.view.readAt (Elt F) (rSlot k).toLoadRect (yrf m ρ c))) Finset.univ i = f i :=
    fun i hi => View.write_of_not_mem _ _ _ (by
      show i ∉ ((View.whole cc0_stg1_0).slice (rOutOth c k)).set
      rw [View.set_slice_whole]; exact hi)
  refine ⟨fun i h1 h2 => ?_, fun i h1 h2 => ?_⟩
  · rw [hoff i (by rw [mem_outOth]; omega)]; exact h.1 i h1 h2
  by_cases hi : i ∈ (rOutOth c k).set
  · rw [← Rect.map_emb_univ, Finset.mem_map] at hi
    obtain ⟨z, -, rfl⟩ := hi
    refine (View.write_emb_of_mem (v := oM.access (rOutOth c k)) f _ (Finset.mem_univ z)).trans ?_
    obtain ⟨y, hy1, hy2, hy⟩ := sumPay_at (xM.view.readAt (Elt F) (rOth c k).toLoadRect (xstg m ρ c)) (yrM.view.readAt (Elt F) (rSlot k).toLoadRect (yrf m ρ c)) z
    have hz := outOth_emb c k z
    have hz0 : (z 0).val < 64 := (z 0).isLt
    show sumPay _ _ z = _
    rw [hy, load_oth, load_yr]
    unfold outAt srcDev
    rw [hz.1, hz.2, hy1, hy2, if_neg (by omega)]
  · rw [hoff i hi]
    rw [mem_outOth] at hi
    exact h.2 i h1 (by omega)

end Cert.AllReduce
-- ==== Proof.StepRules.lean ====
/-
# What each step of the five loops does to the state

For one chunk of one device: what the step needs, what it leaves, and what it still owes its peers. The invariants of
all cells are shared by all steps. A loop's rule follows from its step's.
-/
module

public import proofs.«01_k».proof.Proof.Contents

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running a piece of the body on device `c`. -/
abbrev WP (c : Dev nD) (p : PG F PUnit) (Q : PUnit → sProp 𝕄) : sProp 𝕄 :=
  wp frame (wpE (defs₀ (F := F)) 𝒱₀ (c : Thread nD τ) none) Set.univ p Q

/-- The levels of all cells. -/
@[irreducible] def levS : sProp 𝕄 := levAts L lv
instance levS_persistent : BI.Persistent (levS : sProp 𝕄) := by unfold levS; infer_instance

/-- Every cell's invariant and that it is at its first round, with the levels: what all devices share. -/
def shared (K : Dev nD × Option (Fin 4 × Fin 8) → ℕ) : sProp 𝕄 :=
  iprop(((bigSep Finset.univ fun x => cellInv ER (sched m ρ) (K x) (kcell x)) ∗ (bigSep Finset.univ fun x => reached ER (kcell x) 0)) ∗ levS)

instance shared_persistent (K) : BI.Persistent (shared m ρ K) := by unfold shared; infer_instance

variable (K : Dev nD × Option (Fin 4 × Fin 8) → ℕ)

omit [FloatOps F] in
theorem shared_inv (x : Dev nD × Option (Fin 4 × Fin 8)) : shared m ρ K ⊢ cellInv ER (sched m ρ) (K x) (kcell x) := by
  unfold shared; iintro ⟨⟨H, -⟩, -⟩; iapply (show (bigSep Finset.univ fun x => (cellInv ER (sched m ρ) (K x) (kcell x) : sProp 𝕄)) ⊢ cellInv ER (sched m ρ) (K x) (kcell x) from bigSep_elim (Finset.mem_univ x)); iexact H
omit [FloatOps F] in
theorem shared_reached (x : Dev nD × Option (Fin 4 × Fin 8)) : shared m ρ K ⊢ reached ER (kcell x) 0 := by
  unfold shared; iintro ⟨⟨-, H⟩, -⟩; iapply (show (bigSep Finset.univ fun x => (reached ER (kcell x) 0 : sProp 𝕄)) ⊢ reached ER (kcell x) 0 from bigSep_elim (Finset.mem_univ x)); iexact H
omit [FloatOps F] in
theorem shared_inv_dma (c a k) : shared m ρ K ⊢ cellInv ER (sched m ρ) (K (c, some (a, k))) (dCell c a k) := shared_inv m ρ K (c, some (a, k))
omit [FloatOps F] in
theorem shared_inv_bar (c) : shared m ρ K ⊢ cellInv ER (sched m ρ) (K (c, none)) (barCell c) := shared_inv m ρ K (c, none)
omit [FloatOps F] in
theorem shared_reached_dma (c a k) : shared m ρ K ⊢ reached ER (dCell c a k) 0 := shared_reached m ρ K (c, some (a, k))
omit [FloatOps F] in
theorem shared_reached_bar (c) : shared m ρ K ⊢ reached ER (barCell c) 0 := shared_reached m ρ K (c, none)
omit [FloatOps F] in
theorem shared_lev : shared m ρ K ⊢ levS := by unfold shared; iintro ⟨-, H⟩; iexact H

/-- Device `c` owes `O`, whatever it has waited for. -/
def owesE (c : Dev nD) (O : CellTallies nD τ sig Unit) : sProp 𝕄 := iprop(∃ W, owes (c : Thread nD τ) O W)

omit [FloatOps F] in
/-- A separating conjunction over eight chunks, written out. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A piece of the body followed by another. -/
theorem WP_seq (c : Dev nD) (p : PG F PUnit) (g : PUnit → PG F PUnit) (Mid : sProp 𝕄) (Q : PUnit → sProp 𝕄) :
    iprop(WP c p (fun _ => Mid) ∗ (Mid -∗ WP c (g ⟨⟩) Q)) ⊢ WP c (p >>= g) Q := by
  unfold WP
  rw [wp_bind]
  iintro ⟨H, Hk⟩
  iapply (wp_wand_r frame (wpE (defs₀ (F := F)) 𝒱₀ (c : Thread nD τ) none) Set.univ)
  isplitl [H]; · iexact H
  iintro %_ HM
  iapply Hk $$ HM

/-- A loop of eight steps: each takes the running state on by one and turns its chunk's share into what it leaves. -/
theorem each_loop (c : Dev nD) (f : Fin 8 → PG F PUnit) (P : sProp 𝕄) [BI.Persistent P] (R : ℕ → sProp 𝕄) (A B : Fin 8 → sProp 𝕄)
    (h : ∀ k : Fin 8, iprop(P ∗ R k.val ∗ A k) ⊢ WP c (f k) fun _ => iprop(R (k.val + 1) ∗ B k)) :
    iprop(P ∗ R 0 ∗ bigSep Finset.univ A) ⊢ WP c (each f) fun _ => iprop(R 8 ∗ bigSep Finset.univ B) := by
  rw [bigSep_eight, bigSep_eight]
  unfold each
  iintro ⟨#HP, HR, H0, H1, H2, H3, H4, H5, H6, H7⟩
  iapply (WP_seq c (f 0) _ iprop(R 1 ∗ B 0) _)
  isplitl [HR H0]
  · iapply (show iprop(P ∗ R 0 ∗ A 0) ⊢ WP c (f 0) fun _ => iprop(R 1 ∗ B 0) from h 0); isplitr; · iexact HP
    isplitl [HR] <;> iassumption
  iintro ⟨HR, H0⟩
  iapply (WP_seq c (f 1) _ iprop(R 2 ∗ B 1) _)
  isplitl [HR H1]
  · iapply (show iprop(P ∗ R 1 ∗ A 1) ⊢ WP c (f 1) fun _ => iprop(R 2 ∗ B 1) from h 1); isplitr; · iexact HP
    isplitl [HR] <;> iassumption
  iintro ⟨HR, H1⟩
  iapply (WP_seq c (f 2) _ iprop(R 3 ∗ B 2) _)
  isplitl [HR H2]
  · iapply (show iprop(P ∗ R 2 ∗ A 2) ⊢ WP c (f 2) fun _ => iprop(R 3 ∗ B 2) from h 2); isplitr; · iexact HP
    isplitl [HR] <;> iassumption
  iintro ⟨HR, H2⟩
  iapply (WP_seq c (f 3) _ iprop(R 4 ∗ B 3) _)
  isplitl [HR H3]
  · iapply (show iprop(P ∗ R 3 ∗ A 3) ⊢ WP c (f 3) fun _ => iprop(R 4 ∗ B 3) from h 3); isplitr; · iexact HP
    isplitl [HR] <;> iassumption
  iintro ⟨HR, H3⟩
  iapply (WP_seq c (f 4) _ iprop(R 5 ∗ B 4) _)
  isplitl [HR H4]
  · iapply (show iprop(P ∗ R 4 ∗ A 4) ⊢ WP c (f 4) fun _ => iprop(R 5 ∗ B 4) from h 4); isplitr; · iexact HP
    isplitl [HR] <;> iassumption
  iintro ⟨HR, H4⟩
  iapply (WP_seq c (f 5) _ iprop(R 6 ∗ B 5) _)
  isplitl [HR H5]
  · iapply (show iprop(P ∗ R 5 ∗ A 5) ⊢ WP c (f 5) fun _ => iprop(R 6 ∗ B 5) from h 5); isplitr; · iexact HP
    isplitl [HR] <;> iassumption
  iintro ⟨HR, H5⟩
  iapply (WP_seq c (f 6) _ iprop(R 7 ∗ B 6) _)
  isplitl [HR H6]
  · iapply (show iprop(P ∗ R 6 ∗ A 6) ⊢ WP c (f 6) fun _ => iprop(R 7 ∗ B 6) from h 6); isplitr; · iexact HP
    isplitl [HR] <;> iassumption
  iintro ⟨HR, H6⟩
  iapply (wp_wand_r frame (wpE (defs₀ (F := F)) 𝒱₀ (c : Thread nD τ) none) Set.univ)
  isplitl [HR H7]
  · iapply (show iprop(P ∗ R 7 ∗ A 7) ⊢ WP c (f 7) fun _ => iprop(R 8 ∗ B 7) from h 7); isplitr; · iexact HP
    isplitl [HR] <;> iassumption
  iintro %_ ⟨HR, H7⟩
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## The copies -/

/-- The copy of chunk `k` to the x peer `n`, its semaphores given by their places: from the chunk of the input, the peer's
    chunk and the two duties, the credit of the own send cell. -/
theorem wp_send_x (c n : Dev nD) (hn : n = xp c) (k : Fin 8) (s₁ s₂ : DmaSem sig) (h₁ : s₁ = dq 0 k) (h₂ : s₂ = dq 1 k)
    {hsc : (xrS k : Memref sig (Dev.tc n : Thread nD τ).2.kind .vmem S64x512 .f32).view.ref.isScScratch = false}
    {hsrc : (xS c k).view.WordExact} {hdst : (xrS k).view.WordExact}
    {hsem : DmaTarget.Typed .vmem (.dma s₂) (.remote (Dev.tc n : Thread nD τ) (xrS k) (.dma s₁) hsc)}
    {α : Type} {Q : α → sProp 𝕄} {g : PUnit → Prog (TpuEff nD τ sig (Elt F) Λ₀ .tc) α}
    (fd : (cc0_scratch0 : Ref sig .tc).ty.Contents (Elt F)) (O : CellTallies nD τ sig Unit) (W : Waits sig Unit) :
    iprop(shared m ρ K ∗ xsPt m ρ c k ∗ xrPt (xp c) k fullShare fd
        ∗ owes (c : Thread nD τ) (O + tallyAt (dCell (xp c) 1 k) () N) W ∗ dutyTok ER (dCell c 0 k) 0 false ∗ dutyTok ER (dCell (xp c) 1 k) 0 false)
      ⊢ iprop(((cred (tallyAt (dCell c 0 k) () N) ∗ owes (c : Thread nD τ) O W) -∗ wp frame (wpE (defs₀ (F := F)) 𝒱₀ (c : Thread nD τ) none) Set.univ (g ⟨⟩) Q)
          -∗ wp frame (wpE (defs₀ (F := F)) 𝒱₀ (c : Thread nD τ) none) Set.univ
              (.op (.enqueueDma (xS c k) (.remote (Dev.tc n : Thread nD τ) (xrS k) (.dma s₁) hsc) (.dma s₂) hsrc hdst hsem) g) Q) := by
  subst hn h₁ h₂
  rw [← xsPt_view, ← xrPt_view]
  iintro ⟨#HS, Hs, Hd, HO, Ht, Ht'⟩
  iapply (Rounds.wp_send_pointsTo 𝒱₀ ER (sched m ρ) (c : Thread nD τ) none (c' := (xp c : Thread nD τ)) (src := xS c k) (dst := xrS k) (sS := .dma (dq 0 k)) (sem := .dma (dq 1 k))
    (κ₁ := K (c, some (0, k))) (κ₂ := K (xp c, some (1, k)))
    (r₁ := 0) (r₂ := 0) (d₁ := false) (d₂ := false) (fd := fd)
    (by rw [duties_dma]; exact Finset.mem_singleton_self _) (by rw [duties_dma]; exact Finset.mem_singleton_self _)
    () () N (credit_xr k) (amount_dma m ρ c 0 k false) (amount_dma m ρ (xp c) 1 k false) O rfl (W := W)
    (by rw [payload_dma, xsPt_view]; exact BI.Entails.refl _)
    (by
      have hl := land_x m ρ (xp c) k fd
      rw [xp_xp] at hl
      rw [payload_dma, xrPt_view]
      exact Entails.of_eq (pointsTo_congr hl))) $$ [Hs Hd HO Ht Ht']
  isplitr; · iapply (shared_inv_dma m ρ K c 0 k); iexact HS
  isplitr; · iapply (shared_inv_dma m ρ K (xp c) 1 k); iexact HS
  isplitl [Hs]; · iexact Hs
  isplitl [Hd]; · iexact Hd
  isplitl [HO]; · iexact HO
  isplitl [Ht]; · iexact Ht
  isplitr; · iapply (shared_reached_dma m ρ K c 0 k); iexact HS
  isplitl [Ht']; · iexact Ht'
  iapply (shared_reached_dma m ρ K (xp c) 1 k); iexact HS

/-- The copy of received chunk `k` to the y peer `n`. -/
theorem wp_send_y (c n : Dev nD) (hn : n = yp c) (k : Fin 8) (s₁ s₂ : DmaSem sig) (h₁ : s₁ = dq 2 k) (h₂ : s₂ = dq 3 k)
    {hsc : (yrS k : Memref sig (Dev.tc n : Thread nD τ).2.kind .vmem S64x512 .f32).view.ref.isScScratch = false}
    {hsrc : (xrS k).view.WordExact} {hdst : (yrS k).view.WordExact}
    {hsem : DmaTarget.Typed .vmem (.dma s₂) (.remote (Dev.tc n : Thread nD τ) (yrS k) (.dma s₁) hsc)}
    {α : Type} {Q : α → sProp 𝕄} {g : PUnit → Prog (TpuEff nD τ sig (Elt F) Λ₀ .tc) α}
    (fd : (cc0_scratch1 : Ref sig .tc).ty.Contents (Elt F)) (O : CellTallies nD τ sig Unit) (W : Waits sig Unit) :
    iprop(shared m ρ K ∗ xrPt c k fullShare.right (xrf m ρ c) ∗ yrPt (yp c) k fullShare fd
        ∗ owes (c : Thread nD τ) (O + tallyAt (dCell (yp c) 3 k) () N) W ∗ dutyTok ER (dCell c 2 k) 0 false ∗ dutyTok ER (dCell (yp c) 3 k) 0 false)
      ⊢ iprop(((cred (tallyAt (dCell c 2 k) () N) ∗ owes (c : Thread nD τ) O W) -∗ wp frame (wpE (defs₀ (F := F)) 𝒱₀ (c : Thread nD τ) none) Set.univ (g ⟨⟩) Q)
          -∗ wp frame (wpE (defs₀ (F := F)) 𝒱₀ (c : Thread nD τ) none) Set.univ
              (.op (.enqueueDma (xrS k) (.remote (Dev.tc n : Thread nD τ) (yrS k) (.dma s₁) hsc) (.dma s₂) hsrc hdst hsem) g) Q) := by
  subst hn h₁ h₂
  rw [← xrPt_view, ← yrPt_view]
  iintro ⟨#HS, Hs, Hd, HO, Ht, Ht'⟩
  iapply (Rounds.wp_send_pointsTo 𝒱₀ ER (sched m ρ) (c : Thread nD τ) none (c' := (yp c : Thread nD τ)) (src := xrS k) (dst := yrS k) (sS := .dma (dq 2 k)) (sem := .dma (dq 3 k))
    (κ₁ := K (c, some (2, k))) (κ₂ := K (yp c, some (3, k)))
    (r₁ := 0) (r₂ := 0) (d₁ := false) (d₂ := false) (fd := fd)
    (by rw [duties_dma]; exact Finset.mem_singleton_self _) (by rw [duties_dma]; exact Finset.mem_singleton_self _)
    () () N (credit_yr k) (amount_dma m ρ c 2 k false) (amount_dma m ρ (yp c) 3 k false) O rfl (W := W)
    (by rw [payload_dma, xrPt_view]; exact BI.Entails.refl _)
    (by
      have hl := land_y m ρ (yp c) k fd
      rw [yp_yp] at hl
      rw [payload_dma, yrPt_view]
      exact Entails.of_eq (pointsTo_congr hl))) $$ [Hs Hd HO Ht Ht']
  isplitr; · iapply (shared_inv_dma m ρ K c 2 k); iexact HS
  isplitr; · iapply (shared_inv_dma m ρ K (yp c) 3 k); iexact HS
  isplitl [Hs]; · iexact Hs
  isplitl [Hd]; · iexact Hd
  isplitl [HO]; · iexact HO
  isplitl [Ht]; · iexact Ht
  isplitr; · iapply (shared_reached_dma m ρ K c 2 k); iexact HS
  isplitl [Ht']; · iexact Ht'
  iapply (shared_reached_dma m ρ K (yp c) 3 k); iexact HS

/-! ## The waits -/

/-- The wait for the one arrival at a DMA cell: the credit is spent and what the arrival hands over is had. -/
theorem wp_wait_dma (c : Dev nD) (a : Fin 4) (k : Fin 8) (s : DmaSem sig) (hs : s = dq a k) (src dst : Memref sig .tc .vmem S64x512 .f32)
    (hd : dst.view.dmaCredit = N) {h1 : src.view.WordExact} {h2 : dst.view.WordExact}
    {α : Type} {Q : α → sProp 𝕄} {g : PUnit → Prog (TpuEff nD τ sig (Elt F) Λ₀ .tc) α}
    (O : CellTallies nD τ sig Unit) (n : ℕ) (hn : lvOf (.dma (dq a k)) ≤ n) (hO : Above n O) :
    iprop(shared m ρ K ∗ cred (tallyAt (dCell c a k) () N) ∗ owesE c O ∗ atPos ER (dCell c a k) 0 ∅ 0)
      ⊢ iprop(((owesE c O ∗ atPos ER (dCell c a k) 1 ∅ 0 ∗ dmaPay m ρ c a.val k) -∗ wp frame (wpE (defs₀ (F := F)) 𝒱₀ (c : Thread nD τ) none) Set.univ (g ⟨⟩) Q)
          -∗ wp frame (wpE (defs₀ (F := F)) 𝒱₀ (c : Thread nD τ) none) Set.univ (.op (.waitDma2 s src dst h1 h2) g) Q) := by
  subst hs
  unfold owesE
  have hm : shared m ρ K ⊢ MayWait (c : Thread nD τ) (.dma (dq a k)) () O := by
    have h1 : (levS : sProp 𝕄) ⊢ MayWait (c : Thread nD τ) (.dma (dq a k)) () O := by unfold levS; exact mayWait (F := F) c (.dma (dq a k)) n hn O hO
    exact (shared_lev m ρ K).trans h1
  iintro ⟨#HS, Hc, ⟨%W, HO⟩, Ha⟩ Hk
  rw [← hd]
  iapply (Rounds.wp_wait_rest_token 𝒱₀ ER (sched m ρ) (c : Thread nD τ) none (κ := K (c, some (a, k)))
      (wpE_waitDma2_eq 𝒱₀ (c : Thread nD τ) none Set.univ) (Set.mem_univ _) () (O := O) (W := W) (R := 0) (m := 0) (T := ∅)
      ((congrArg (0 + ·) hd).trans ((Nat.zero_add N).trans (expect_dma m ρ c a k).symm))) $$ [Hc HO Ha]
  · isplitr; · iapply (shared_inv_dma m ρ K c a k); iexact HS
    isplitl [Hc]; · iexact Hc
    isplitl [HO]; · iexact HO
    isplitr; · iapply hm; iexact HS
    iexact Ha
  iintro ⟨HO, Ha, -, Hp⟩
  ihave Hp' := (Entails.of_eq (rest_dma m ρ c a k)) $$ Hp
  iapply Hk
  isplitl [HO]; · iexists _; iexact HO
  isplitl [Ha]; · iexact Ha
  iexact Hp'

/-! ## The steps of the loops -/

/-- The input's half share the sums read it at, and the result's staging buffer at some contents with a property. -/
def xHalf (c : Dev nD) : sProp 𝕄 := ((c : Thread nD τ).loc cc0_stg0_0) ↦{fullShare.left} (xstg m ρ c)
def outWith (c : Dev nD) (p : (cc0_stg1_0 : Ref sig .tc).ty.Contents (Elt F) → Prop) : sProp 𝕄 :=
  iprop(∃ f : Buf (Elt F) ((c : Thread nD τ).loc cc0_stg1_0), ⌜p f⌝ ∗ (((c : Thread nD τ).loc cc0_stg1_0) ↦{fullShare} f))

/-- The elements a load of chunk `k` touches are the chunk's. -/
theorem slot_elems_xr (k : Fin 8) : xrM.view.setOn (rSlot k).toLoadRect.set ⊆ (rSlot k).set :=
  Finset.subset_of_eq (((View.whole cc0_scratch0).set_slice (rSlot k)).symm.trans (View.set_slice_whole cc0_scratch0 (rSlot k)))
theorem slot_elems_yr (k : Fin 8) : yrM.view.setOn (rSlot k).toLoadRect.set ⊆ (rSlot k).set :=
  Finset.subset_of_eq (((View.whole cc0_scratch1).set_slice (rSlot k)).symm.trans (View.set_slice_whole cc0_scratch1 (rSlot k)))

/-- What a chunk's copy to the x peer needs. -/
def sendA (c : Dev nD) (k : Fin 8) : sProp 𝕄 :=
  iprop((xsPt m ρ c k ∗ (∃ f, xrPt (xp c) k fullShare f)) ∗ dutyTok ER (dCell c 0 k) 0 false ∗ dutyTok ER (dCell (xp c) 1 k) 0 false)

theorem send_step (c : Dev nD) (k : Fin 8) :
    iprop(shared m ρ K ∗ owesE c (OX c k.val + OY c 0) ∗ sendA m ρ c k)
      ⊢ WP c (sendStep c (devX c k) k) fun _ => iprop(owesE c (OX c (k.val + 1) + OY c 0) ∗ cred (tallyAt (dCell c 0 k) () N)) := by
  unfold sendStep sendA owesE
  simp only [Prog.lift, WP]
  rw [OX_step, add_right_comm]
  iintro ⟨#HS, ⟨%W, HO⟩, ⟨Hs, ⟨%f, Hd⟩⟩, Ht, Ht'⟩
  iapply (wp_send_x m ρ K c _ (devX_eq c k) k _ _ (semAt_xs k) (semAt_xr k) f (OX c (k.val + 1) + OY c 0) W) $$ [HO Hs Hd Ht Ht']
  · isplitr; · iexact HS
    isplitl [Hs]; · iexact Hs
    isplitl [Hd]; · iexact Hd
    isplitl [HO]; · iexact HO
    isplitl [Ht] <;> iassumption
  iintro ⟨Hc, HO⟩
  rw [wp_ret]; imodintro
  isplitl [HO]; · iexists W; iexact HO
  iexact Hc

/-- What a chunk's forwarding and sum need, and what they leave. -/
def fwdA (c : Dev nD) (k : Fin 8) : sProp 𝕄 :=
  iprop((cred (tallyAt (dCell c 1 k) () N) ∗ atPos ER (dCell c 1 k) 0 ∅ 0 ∗ (∃ f, yrPt (yp c) k fullShare f))
    ∗ dutyTok ER (dCell c 2 k) 0 false ∗ dutyTok ER (dCell (yp c) 3 k) 0 false)
def fwdB (c : Dev nD) (k : Fin 8) : sProp 𝕄 :=
  iprop(atPos ER (dCell c 1 k) 1 ∅ 0 ∗ cred (tallyAt (dCell c 2 k) () N) ∗ xrPt c k fullShare.left (xrf m ρ c))

theorem fwd_step (c : Dev nD) (k : Fin 8) :
    iprop(shared m ρ K ∗ owesE c (OY c k.val) ∗ fwdA c k)
      ⊢ WP c (fwdStep c (devY c k) k) fun _ => iprop(owesE c (OY c (k.val + 1)) ∗ fwdB m ρ c k) := by
  unfold fwdStep fwdA fwdB
  simp only [Prog.lift, Prog.bind_op, Prog.bind_ret, WP]
  iintro ⟨#HS, HO, ⟨Hc, Ha, ⟨%f, Hd⟩⟩, Ht, Ht'⟩
  iapply (wp_wait_dma m ρ K c 1 k _ (semAt_xr k) (xS c k) (xrS k) (credit_xr k) (OY c k.val) 2
    (by show (if (2 + 8 * 1 + k.val - 2) / 8 = 1 then 2 else _) ≤ 2; rw [if_pos (by omega)]) (above_OY c k.val)) $$ [HO Hc Ha]
  · isplitr; · iexact HS
    isplitl [Hc]; · iexact Hc
    isplitl [HO]; · iexact HO
    iexact Ha
  iintro ⟨HO, Ha, Hp⟩
  ihave Hp' := (Entails.of_eq (show dmaPay m ρ c (1 : Fin 4).val k = xrPt c k fullShare (xrf m ρ c) from rfl)) $$ Hp
  ihave Hp2 := (show (xrPt c k fullShare (xrf m ρ c) : sProp 𝕄) ⊢ iprop(xrPt c k fullShare.left (xrf m ρ c) ∗ xrPt c k fullShare.right (xrf m ρ c)) from by
    unfold xrPt; exact (pointsTo_share (PosShare.mem_left_op_right fullShare)).1) $$ Hp'
  icases Hp2 with ⟨Hl, Hr⟩
  unfold owesE
  icases HO with ⟨%W, HO⟩
  rw [OY_step]
  iapply (wp_send_y m ρ K c _ (devY_eq c k) k _ _ (semAt_ys k) (semAt_yr k) f (OY c (k.val + 1)) W) $$ [HO Hr Hd Ht Ht']
  · isplitr; · iexact HS
    isplitl [Hr]; · iexact Hr
    isplitl [Hd]; · iexact Hd
    isplitl [HO]; · iexact HO
    isplitl [Ht] <;> iassumption
  iintro ⟨Hc, HO⟩
  rw [wp_ret]; imodintro
  isplitl [HO]; · iexists W; iexact HO
  isplitl [Ha]; · iexact Ha
  isplitl [Hc] <;> iassumption

/-- The sum over the received chunk: the own half's rows grow by the chunk. -/
theorem addOwn_step (c : Dev nD) (k : Fin 8) :
    iprop(xHalf m ρ c ∗ outWith c (OwnDone m ρ c k.val) ∗ xrPt c k fullShare.left (xrf m ρ c))
      ⊢ WP c (addOwnStep c k) fun _ => iprop(xHalf m ρ c ∗ outWith c (OwnDone m ρ c (k.val + 1)) ∗ xrPt c k fullShare.left (xrf m ρ c)) := by
  unfold addOwnStep xHalf outWith xrPt
  simp only [Prog.lift, Prog.bind_op, Prog.bind_ret, WP]
  iintro ⟨Hx, ⟨%f, %hf, Ho⟩, Hr⟩
  iapply (wp_load 𝒱₀ (c : Thread nD τ) none Set.univ (m := xM) (Finset.subset_univ _)) $$ Hx; iintro Hx
  iapply (wp_load 𝒱₀ (c : Thread nD τ) none Set.univ (m := xrM) (S := (rSlot k).set) (slot_elems_xr k)) $$ Hr; iintro Hr
  iapply (wp_load 𝒱₀ (c : Thread nD τ) none Set.univ (m := oM) (Finset.subset_univ _)) $$ Ho; iintro Ho
  iapply (wp_store 𝒱₀ (c : Thread nD τ) none Set.univ (m := oM) (r := rOutOwn c k) (Mk := Finset.univ) (Finset.subset_univ _)) $$ Ho; iintro Ho
  rw [wp_ret]; imodintro
  isplitl [Hx]; · iexact Hx
  isplitl [Ho]
  · iexists _; isplitr; · ipureintro; exact store_own m ρ c k f hf
    iexact Ho
  iexact Hr

/-- What the wait for a forwarded chunk needs and leaves. -/
def recvA (c : Dev nD) (k : Fin 8) : sProp 𝕄 := iprop(cred (tallyAt (dCell c 3 k) () N) ∗ atPos ER (dCell c 3 k) 0 ∅ 0)
def recvB (c : Dev nD) (k : Fin 8) : sProp 𝕄 := iprop(atPos ER (dCell c 3 k) 1 ∅ 0 ∗ yrPt c k fullShare (yrf m ρ c))

theorem waitY_step (c : Dev nD) (k : Fin 8) :
    iprop(shared m ρ K ∗ owesE c 0 ∗ recvA c k) ⊢ WP c (waitYStep k) fun _ => iprop(owesE c 0 ∗ recvB m ρ c k) := by
  unfold waitYStep recvA recvB
  simp only [Prog.lift, WP]
  iintro ⟨#HS, HO, Hc, Ha⟩
  iapply (wp_wait_dma m ρ K c 3 k _ (semAt_yr k) (xrS k) (yrS k) (credit_yr k) 0 _ le_rfl (Above.zero _)) $$ [HO Hc Ha]
  · isplitr; · iexact HS
    isplitl [Hc]; · iexact Hc
    isplitl [HO]; · iexact HO
    iexact Ha
  iintro ⟨HO, Ha, Hp⟩
  ihave Hp' := (Entails.of_eq (show dmaPay m ρ c (3 : Fin 4).val k = yrPt c k fullShare (yrf m ρ c) from rfl)) $$ Hp
  rw [wp_ret]; imodintro
  isplitl [HO]; · iexact HO
  isplitl [Ha] <;> iassumption

/-- The sum over the forwarded chunk: the other half's rows grow by the chunk. -/
theorem addOth_step (c : Dev nD) (k : Fin 8) :
    iprop(xHalf m ρ c ∗ outWith c (OthDone m ρ c k.val) ∗ yrPt c k fullShare (yrf m ρ c))
      ⊢ WP c (addOthStep c k) fun _ => iprop(xHalf m ρ c ∗ outWith c (OthDone m ρ c (k.val + 1)) ∗ yrPt c k fullShare (yrf m ρ c)) := by
  unfold addOthStep xHalf outWith yrPt
  simp only [Prog.lift, Prog.bind_op, Prog.bind_ret, WP]
  iintro ⟨Hx, ⟨%f, %hf, Ho⟩, Hr⟩
  iapply (wp_load 𝒱₀ (c : Thread nD τ) none Set.univ (m := xM) (Finset.subset_univ _)) $$ Hx; iintro Hx
  iapply (wp_load 𝒱₀ (c : Thread nD τ) none Set.univ (m := yrM) (S := (rSlot k).set) (slot_elems_yr k)) $$ Hr; iintro Hr
  iapply (wp_load 𝒱₀ (c : Thread nD τ) none Set.univ (m := oM) (Finset.subset_univ _)) $$ Ho; iintro Ho
  iapply (wp_store 𝒱₀ (c : Thread nD τ) none Set.univ (m := oM) (r := rOutOth c k) (Mk := Finset.univ) (Finset.subset_univ _)) $$ Ho; iintro Ho
  rw [wp_ret]; imodintro
  isplitl [Hx]; · iexact Hx
  isplitl [Ho]
  · iexists _; isplitr; · ipureintro; exact store_oth m ρ c k f hf
    iexact Ho
  iexact Hr

/-- What the waits for the ends of a chunk's two copies need and leave. -/
def drainA (c : Dev nD) (k : Fin 8) : sProp 𝕄 :=
  iprop((cred (tallyAt (dCell c 0 k) () N) ∗ atPos ER (dCell c 0 k) 0 ∅ 0) ∗ cred (tallyAt (dCell c 2 k) () N) ∗ atPos ER (dCell c 2 k) 0 ∅ 0)
def drainB (c : Dev nD) (k : Fin 8) : sProp 𝕄 :=
  iprop((atPos ER (dCell c 0 k) 1 ∅ 0 ∗ xsPt m ρ c k) ∗ atPos ER (dCell c 2 k) 1 ∅ 0 ∗ xrPt c k fullShare.right (xrf m ρ c))

theorem drain_step (c : Dev nD) (k : Fin 8) :
    iprop(shared m ρ K ∗ owesE c 0 ∗ drainA c k) ⊢ WP c (drainStep c k) fun _ => iprop(owesE c 0 ∗ drainB m ρ c k) := by
  unfold drainStep drainA drainB
  simp only [Prog.lift, Prog.bind_op, Prog.bind_ret, WP]
  iintro ⟨#HS, HO, ⟨Hc, Ha⟩, Hc', Ha'⟩
  iapply (wp_wait_dma m ρ K c 0 k _ (semAt_xs k) (xrS k) (xS c k) (credit_x c k) 0 _ le_rfl (Above.zero _)) $$ [HO Hc Ha]
  · isplitr; · iexact HS
    isplitl [Hc]; · iexact Hc
    isplitl [HO]; · iexact HO
    iexact Ha
  iintro ⟨HO, Ha, Hp⟩
  ihave Hp := (Entails.of_eq (show dmaPay m ρ c (0 : Fin 4).val k = xsPt m ρ c k from rfl)) $$ Hp
  iapply (wp_wait_dma m ρ K c 2 k _ (semAt_ys k) (yrS k) (xrS k) (credit_xr k) 0 _ le_rfl (Above.zero _)) $$ [HO Hc' Ha']
  · isplitr; · iexact HS
    isplitl [Hc']; · iexact Hc'
    isplitl [HO]; · iexact HO
    iexact Ha'
  iintro ⟨HO, Ha', Hp'⟩
  ihave Hp' := (Entails.of_eq (show dmaPay m ρ c (2 : Fin 4).val k = xrPt c k fullShare.right (xrf m ρ c) from rfl)) $$ Hp'
  rw [wp_ret]; imodintro
  isplitl [HO]; · iexact HO
  isplitl [Ha Hp]
  · isplitl [Ha] <;> iassumption
  isplitl [Ha'] <;> iassumption

end Cert.AllReduce
-- ==== Proof.Body.lean ====
/-
# The body of one device

The handshake and the five loops in order, from the device's share of the protocol's ghost state and its buffers to the
buffers with the result and every semaphore of the kernel back at zero.
-/
module

public import proofs.«01_k».proof.Proof.StepRules

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 4 × Fin 8) → ℕ)

/-! ## The handshake -/

/-- The handshake: each peer is handed this device's receive buffer; each peer's receive buffer is had. -/
theorem bar_step (c : Dev nD) :
    iprop(shared m ρ K ∗ owesE c (O₀ c) ∗ (dutyTok ER (barCell (xp c)) 0 false ∗ dutyTok ER (barCell (yp c)) 0 true)
        ∗ cred (tallyAt (barCell c) () 2) ∗ atPos ER (barCell c) 0 ∅ 0 ∗ barPayX (xp c) ∗ barPayY (yp c))
      ⊢ WP c (barStep c) fun _ => iprop(owesE c (OX c 0 + OY c 0) ∗ atPos ER (barCell c) 1 ∅ 0 ∗ barPayX c ∗ barPayY c) := by
  have hm : shared m ρ K ⊢ MayWait (c : Thread nD τ) (.reg barS) () (OX c 0 + OY c 0) := by
    have h1 : (levS : sProp 𝕄) ⊢ MayWait (c : Thread nD τ) (.reg barS) () (OX c 0 + OY c 0) := by
      unfold levS; exact mayWait (F := F) c (.reg barS) 1 le_rfl _ ((above_OX c 0).add ((above_OY c 0).mono (by decide)))
    exact (shared_lev m ρ K).trans h1
  unfold barStep owesE
  simp only [semSignalWord, semWaitWord, Prog.lift, Prog.bind_op, Prog.bind_ret, dev1_eq c, dev2_eq c, WP]
  iintro ⟨#HS, ⟨%W, HO⟩, ⟨Ht1, Ht2⟩, Hc, Ha, HX, HY⟩
  unfold O₀
  iapply (Rounds.wp_signal 𝒱₀ ER (sched m ρ) (c : Thread nD τ) none (dst := (xp c : Thread nD τ)) (κ := K (xp c, none))
      (d := false) (by rw [duties_bar]; exact Finset.mem_univ _) ((amount_bar m ρ (xp c) false).trans (by decide)) () (O₁ c) rfl)
    $$ [HO Ht1 HX]
  · isplitr; · iapply (shared_inv_bar m ρ K (xp c)); iexact HS
    isplitl [HO]; · iexact HO
    isplitl [Ht1]; · iexact Ht1
    isplitl [HX]; · rw [payload_bar, if_neg Bool.false_ne_true]; iexact HX
    iapply (shared_reached_bar m ρ K (xp c)); iexact HS
  iintro HO
  unfold O₁
  iapply (Rounds.wp_signal 𝒱₀ ER (sched m ρ) (c : Thread nD τ) none (dst := (yp c : Thread nD τ)) (κ := K (yp c, none))
      (d := true) (by rw [duties_bar]; exact Finset.mem_univ _) ((amount_bar m ρ (yp c) true).trans (by decide)) () (OX c 0 + OY c 0) rfl)
    $$ [HO Ht2 HY]
  · isplitr; · iapply (shared_inv_bar m ρ K (yp c)); iexact HS
    isplitl [HO]; · iexact HO
    isplitl [Ht2]; · iexact Ht2
    isplitl [HY]; · rw [payload_bar, if_pos rfl]; iexact HY
    iapply (shared_reached_bar m ρ K (yp c)); iexact HS
  iintro HO
  iapply (Rounds.wp_wait_rest_token 𝒱₀ ER (sched m ρ) (c : Thread nD τ) none (κ := K (c, none))
      (wpE_semWait_eq 𝒱₀ (c : Thread nD τ) none Set.univ) (Set.mem_univ _) () (O := OX c 0 + OY c 0) (W := W) (R := 0) (m := 0) (T := ∅)
      (by rw [expect_bar]; decide)) $$ [Hc HO Ha]
  · isplitr; · iapply (shared_inv_bar m ρ K c); iexact HS
    isplitl [Hc]; · iexact Hc
    isplitl [HO]; · iexact HO
    isplitr; · iapply hm; iexact HS
    iexact Ha
  iintro ⟨HO, Ha, -, Hp⟩
  ihave Hp' := (Entails.of_eq (rest_bar m ρ c)) $$ Hp
  icases Hp' with ⟨HX, HY⟩
  rw [wp_ret]; imodintro
  isplitl [HO]; · iexists _; iexact HO
  isplitl [Ha]; · iexact Ha
  isplitl [HX] <;> iassumption

/-! ## The two loops with sums -/

theorem fwd_add_step (c : Dev nD) (k : Fin 8) :
    iprop(shared m ρ K ∗ (owesE c (OY c k.val) ∗ xHalf m ρ c ∗ outWith c (OwnDone m ρ c k.val)) ∗ fwdA c k)
      ⊢ WP c (do fwdStep c (devY c k) k; addOwnStep c k)
          fun _ => iprop((owesE c (OY c (k.val + 1)) ∗ xHalf m ρ c ∗ outWith c (OwnDone m ρ c (k.val + 1))) ∗ fwdB m ρ c k) := by
  iintro ⟨#HS, ⟨HO, Hx, Ho⟩, HA⟩
  iapply (WP_seq c (fwdStep c (devY c k) k) _ iprop(owesE c (OY c (k.val + 1)) ∗ fwdB m ρ c k) _)
  isplitl [HO HA]
  · iapply (fwd_step m ρ K c k)
    isplitr; · iexact HS
    isplitl [HO] <;> iassumption
  unfold fwdB
  iintro ⟨HO, Ha, Hc, Hr⟩
  iapply (wp_wand_r frame (wpE (defs₀ (F := F)) 𝒱₀ (c : Thread nD τ) none) Set.univ)
  isplitl [Hx Ho Hr]
  · iapply (addOwn_step m ρ c k)
    isplitl [Hx]; · iexact Hx
    isplitl [Ho] <;> iassumption
  iintro %_ ⟨Hx, Ho, Hr⟩
  isplitl [HO Hx Ho]
  · isplitl [HO]; · iexact HO
    isplitl [Hx] <;> iassumption
  isplitl [Ha]; · iexact Ha
  isplitl [Hc] <;> iassumption

theorem recv_add_step (c : Dev nD) (k : Fin 8) :
    iprop(shared m ρ K ∗ (owesE c 0 ∗ xHalf m ρ c ∗ outWith c (OthDone m ρ c k.val)) ∗ recvA c k)
      ⊢ WP c (do waitYStep k; addOthStep c k)
          fun _ => iprop((owesE c 0 ∗ xHalf m ρ c ∗ outWith c (OthDone m ρ c (k.val + 1))) ∗ recvB m ρ c k) := by
  iintro ⟨#HS, ⟨HO, Hx, Ho⟩, HA⟩
  iapply (WP_seq c (waitYStep k) _ iprop(owesE c 0 ∗ recvB m ρ c k) _)
  isplitl [HO HA]
  · iapply (waitY_step m ρ K c k)
    isplitr; · iexact HS
    isplitl [HO] <;> iassumption
  unfold recvB
  iintro ⟨HO, Ha, Hr⟩
  iapply (wp_wand_r frame (wpE (defs₀ (F := F)) 𝒱₀ (c : Thread nD τ) none) Set.univ)
  isplitl [Hx Ho Hr]
  · iapply (addOth_step m ρ c k)
    isplitl [Hx]; · iexact Hx
    isplitl [Ho] <;> iassumption
  iintro %_ ⟨Hx, Ho, Hr⟩
  isplitl [HO Hx Ho]
  · isplitl [HO]; · iexact HO
    isplitl [Hx] <;> iassumption
  isplitl [Ha] <;> iassumption

/-! ## The body between its buffers -/

/-- A conjunction over the eight chunks. -/
abbrev chunks (Φ : Fin 8 → sProp 𝕄) : sProp 𝕄 := bigSep Finset.univ Φ
omit [FloatOps F] in
theorem chunks_sep (Φ Ψ : Fin 8 → sProp 𝕄) : chunks (fun k => iprop(Φ k ∗ Ψ k)) = iprop(chunks Φ ∗ chunks Ψ) := bigSep_sep' _ _ _

/-- The positions of device `c` at its thirty-three cells, at round `r`. -/
def posns (c : Dev nD) (r : ℕ) : sProp 𝕄 :=
  iprop(atPos ER (barCell c) r ∅ 0 ∗ chunks (fun k => atPos ER (dCell c 0 k) r ∅ 0) ∗ chunks (fun k => atPos ER (dCell c 1 k) r ∅ 0)
    ∗ chunks (fun k => atPos ER (dCell c 2 k) r ∅ 0) ∗ chunks (fun k => atPos ER (dCell c 3 k) r ∅ 0))
/-- The duties device `c` pays. -/
def payToks (c : Dev nD) : sProp 𝕄 :=
  iprop((dutyTok ER (barCell (xp c)) 0 false ∗ dutyTok ER (barCell (yp c)) 0 true)
    ∗ chunks (fun k => dutyTok ER (dCell c 0 k) 0 false) ∗ chunks (fun k => dutyTok ER (dCell (xp c) 1 k) 0 false)
    ∗ chunks (fun k => dutyTok ER (dCell c 2 k) 0 false) ∗ chunks (fun k => dutyTok ER (dCell (yp c) 3 k) 0 false))
/-- The credit device `c` is owed at launch. -/
def creds0 (c : Dev nD) : sProp 𝕄 :=
  iprop(cred (tallyAt (barCell c) () 2) ∗ chunks (fun k => cred (tallyAt (dCell c 1 k) () N)) ∗ chunks (fun k => cred (tallyAt (dCell c 3 k) () N)))

theorem run_body (c : Dev nD) :
    iprop(shared m ρ K ∗ owesE c (O₀ c) ∗ posns c 0 ∗ payToks c ∗ creds0 c ∗ barPayX (xp c) ∗ barPayY (yp c)
        ∗ chunks (xsPt m ρ c) ∗ xHalf m ρ c ∗ outWith c (fun _ => True))
      ⊢ WP c (bodyAfter c) fun _ => iprop(owesE c 0 ∗ posns c 1 ∗ (chunks (xsPt m ρ c) ∗ xHalf m ρ c) ∗ outWith c (OthDone m ρ c 8)
          ∗ chunks (fun k => xrPt c k fullShare.left (xrf m ρ c)) ∗ chunks (fun k => xrPt c k fullShare.right (xrf m ρ c))
          ∗ chunks (fun k => yrPt c k fullShare (yrf m ρ c))) := by
  unfold posns payToks creds0 bodyAfter
  iintro ⟨#HS, HO, ⟨HaB, Ha0, Ha1, Ha2, Ha3⟩, ⟨HtB, Ht0, Ht1, Ht2, Ht3⟩, ⟨HcB, Hc1, Hc3⟩, HX, HY, Hxs, Hx, Ho⟩
  iapply (WP_seq c (barStep c) _ iprop(owesE c (OX c 0 + OY c 0) ∗ atPos ER (barCell c) 1 ∅ 0 ∗ barPayX c ∗ barPayY c) _)
  isplitl [HO HaB HtB HcB HX HY]
  · iapply (bar_step m ρ K c)
    isplitr; · iexact HS
    isplitl [HO]; · iexact HO
    isplitl [HtB]; · iexact HtB
    isplitl [HcB]; · iexact HcB
    isplitl [HaB]; · iexact HaB
    isplitl [HX] <;> iassumption
  iintro ⟨HO, HaB, HX, HY⟩
  -- the copies to the x peer
  iapply (WP_seq c (each fun k => sendStep c (devX c k) k) _ iprop(owesE c (OX c 8 + OY c 0) ∗ chunks (fun k => cred (tallyAt (dCell c 0 k) () N))) _)
  isplitl [HO Hxs HX Ht0 Ht1]
  · iapply (each_loop c _ (shared m ρ K) (fun n => owesE c (OX c n + OY c 0)) (sendA m ρ c) (fun k => cred (tallyAt (dCell c 0 k) () N)) (fun k => send_step m ρ K c k))
    isplitr; · iexact HS
    isplitl [HO]; · iexact HO
    unfold sendA
    rw [bigSep_sep', bigSep_sep', bigSep_sep']
    isplitl [Hxs HX]
    · isplitl [Hxs]; · iexact Hxs
      unfold barPayX; iexact HX
    isplitl [Ht0] <;> iassumption
  iintro ⟨HO, Hc0⟩
  rw [OX_end, zero_add]
  -- the forwarding and the sums over the own half
  iapply (WP_seq c (each fun k => do fwdStep c (devY c k) k; addOwnStep c k) _
    iprop((owesE c (OY c 8) ∗ xHalf m ρ c ∗ outWith c (OwnDone m ρ c 8)) ∗ chunks (fwdB m ρ c)) _)
  isplitl [HO Hx Ho HY Ha1 Hc1 Ht2 Ht3]
  · iapply (each_loop c _ (shared m ρ K) (fun n => iprop(owesE c (OY c n) ∗ xHalf m ρ c ∗ outWith c (OwnDone m ρ c n))) (fwdA c) (fwdB m ρ c) (fun k => fwd_add_step m ρ K c k))
    isplitr; · iexact HS
    isplitl [HO Hx Ho]
    · isplitl [HO]; · iexact HO
      isplitl [Hx]; · iexact Hx
      unfold outWith
      icases Ho with ⟨%f, %hf, Ho⟩
      iexists f; isplitr; · ipureintro; exact ownDone_zero m ρ c f
      iexact Ho
    unfold fwdA
    rw [bigSep_sep', bigSep_sep', bigSep_sep', bigSep_sep']
    isplitl [Hc1 Ha1 HY]
    · isplitl [Hc1]; · iexact Hc1
      isplitl [Ha1]; · iexact Ha1
      unfold barPayY; iexact HY
    isplitl [Ht2] <;> iassumption
  rw [OY_end]
  unfold fwdB
  rw [chunks_sep, chunks_sep]
  iintro ⟨⟨HO, Hx, Ho⟩, Ha1, Hc2, Hl⟩
  -- the sums over the other half
  iapply (WP_seq c (each fun k => do waitYStep k; addOthStep c k) _
    iprop((owesE c 0 ∗ xHalf m ρ c ∗ outWith c (OthDone m ρ c 8)) ∗ chunks (recvB m ρ c)) _)
  isplitl [HO Hx Ho Ha3 Hc3]
  · iapply (each_loop c _ (shared m ρ K) (fun n => iprop(owesE c 0 ∗ xHalf m ρ c ∗ outWith c (OthDone m ρ c n))) (recvA c) (recvB m ρ c) (fun k => recv_add_step m ρ K c k))
    isplitr; · iexact HS
    isplitl [HO Hx Ho]
    · isplitl [HO]; · iexact HO
      isplitl [Hx]; · iexact Hx
      unfold outWith
      icases Ho with ⟨%f, %hf, Ho⟩
      iexists f; isplitr; · ipureintro; exact othDone_zero m ρ c f hf
      iexact Ho
    unfold recvA
    rw [bigSep_sep']
    isplitl [Hc3] <;> iassumption
  unfold recvB
  rw [chunks_sep]
  iintro ⟨⟨HO, Hx, Ho⟩, Ha3, Hy⟩
  -- the ends of the copies
  iapply (wp_wand_r frame (wpE (defs₀ (F := F)) 𝒱₀ (c : Thread nD τ) none) Set.univ)
  isplitl [HO Ha0 Hc0 Ha2 Hc2]
  · iapply (each_loop c _ (shared m ρ K) (fun _ => owesE c 0) (drainA c) (drainB m ρ c) (fun k => drain_step m ρ K c k))
    isplitr; · iexact HS
    isplitl [HO]; · iexact HO
    unfold drainA
    rw [bigSep_sep', bigSep_sep', bigSep_sep']
    isplitl [Hc0 Ha0]
    · isplitl [Hc0] <;> iassumption
    isplitl [Hc2] <;> iassumption
  unfold drainB
  rw [bigSep_sep', bigSep_sep', bigSep_sep']
  iintro %_ ⟨HO, ⟨Ha0, Hxs⟩, Ha2, Hr⟩
  isplitl [HO]; · iexact HO
  isplitl [HaB Ha0 Ha1 Ha2 Ha3]
  · isplitl [HaB]; · iexact HaB
    isplitl [Ha0]; · iexact Ha0
    isplitl [Ha1]; · iexact Ha1
    isplitl [Ha2] <;> iassumption
  isplitl [Hxs Hx]
  · isplitl [Hxs] <;> iassumption
  isplitl [Ho]; · iexact Ho
  isplitl [Hl]; · iexact Hl
  isplitl [Hr] <;> iassumption

/-! ## Buffers whole and in chunks -/

omit [FloatOps F] in
theorem xr_chunks (c : Dev nD) (q) (f : (cc0_scratch0 : Ref sig .tc).ty.Contents (Elt F)) :
    (((c : Thread nD τ).loc cc0_scratch0) ↦{q} f : sProp 𝕄) = chunks (fun k => xrPt c k q f) := by
  unfold xrPt chunks
  rw [← pointsTo_biUnion (ℓ := (c : Thread nD τ).loc cc0_scratch0) Finset.univ (fun k => (rSlot k).set) (fun k _ k' _ h => slot_disjoint k k' h), slot_cover]
omit [FloatOps F] in
theorem yr_chunks (c : Dev nD) (q) (f : (cc0_scratch1 : Ref sig .tc).ty.Contents (Elt F)) :
    (((c : Thread nD τ).loc cc0_scratch1) ↦{q} f : sProp 𝕄) = chunks (fun k => yrPt c k q f) := by
  unfold yrPt chunks
  rw [← pointsTo_biUnion (ℓ := (c : Thread nD τ).loc cc0_scratch1) Finset.univ (fun k => (rSlot k).set) (fun k _ k' _ h => slot_disjoint k k' h), slot_cover]

/-- The half share of the input outside the chunks that are sent. -/
def xOff (c : Dev nD) : sProp 𝕄 :=
  ((c : Thread nD τ).loc cc0_stg0_0) ↦[(Finset.univ : Finset S1x1024x1024.Idx) \ (Finset.univ.biUnion fun k : Fin 8 => (rSend c k).set)]{fullShare.right} (xstg m ρ c)

omit [FloatOps F] in
theorem x_pieces (c : Dev nD) :
    (((c : Thread nD τ).loc cc0_stg0_0) ↦{fullShare} (xstg m ρ c) : sProp 𝕄) ⊣⊢ iprop(xHalf m ρ c ∗ chunks (xsPt m ρ c) ∗ xOff m ρ c) := by
  have h1 : (((c : Thread nD τ).loc cc0_stg0_0) ↦{fullShare} (xstg m ρ c) : sProp 𝕄) ⊣⊢ iprop(xHalf m ρ c ∗ (((c : Thread nD τ).loc cc0_stg0_0) ↦{fullShare.right} (xstg m ρ c))) :=
    pointsTo_share (PosShare.mem_left_op_right fullShare)
  have h2 : (((c : Thread nD τ).loc cc0_stg0_0) ↦{fullShare.right} (xstg m ρ c) : sProp 𝕄) ⊣⊢ iprop(chunks (xsPt m ρ c) ∗ xOff m ρ c) := by
    unfold xsPt xOff chunks
    rw [← pointsTo_biUnion (ℓ := (c : Thread nD τ).loc cc0_stg0_0) Finset.univ (fun k => (rSend c k).set) (fun k _ k' _ h => send_disjoint c k k' h)]
    exact pointsTo_split_subset (Finset.subset_univ _)
  constructor
  · iintro H
    ihave H := h1.1 $$ H
    icases H with ⟨Hl, Hr⟩
    ihave Hr := h2.1 $$ Hr
    isplitl [Hl] <;> iassumption
  · iintro ⟨Hl, Hr⟩
    ihave Hr := h2.2 $$ Hr
    iapply h1.2
    isplitl [Hl] <;> iassumption

end Cert.AllReduce
-- ==== Proof.Run.lean ====
/-
# The launch and the run

The pipeline's proof data, the body's obligation, the dealing of the protocol's ghost state to the sixteen devices, and
the run: from any memory with zero counters every execution ends, with each device's result array at the computed
contents, its input array unchanged and every semaphore counter at zero.
-/
module

public import proofs.«01_k».proof.Proof.Body

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem one_point : cfg0.N = 1 := by decide
def t₀ : Fin cfg0.N := ⟨0, by rw [one_point]; decide⟩
theorem only_t₀ (t : Fin cfg0.N) : t = t₀ := by
  obtain ⟨t, ht⟩ := t; have := one_point; exact Fin.ext (by simp only [t₀]; omega)

/-- What device `c`'s body starts from besides its buffers. -/
def start (c : Dev nD) : sProp 𝕄 :=
  iprop((∃ K, shared m ρ K) ∗ posns c 0 ∗ payToks c ∗ creds0 c)

/-- The two receive buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Every semaphore of the kernel's own at zero, and the barrier semaphore. -/
def ownZero (c : Dev nD) : sProp 𝕄 :=
  iprop(chunks (fun k => semVal (dCell c 0 k) 0) ∗ chunks (fun k => semVal (dCell c 1 k) 0)
    ∗ chunks (fun k => semVal (dCell c 2 k) 0) ∗ chunks (fun k => semVal (dCell c 3 k) 0))

def Φ₀ (c : Dev nD) : sProp 𝕄 := iprop(start m ρ c ∗ scratch c)
def Φ₁ (c : Dev nD) : sProp 𝕄 := iprop(scratch c ∗ semVal (barCell c) 0 ∗ ownZero c)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_in (t : Fin cfg0.N) : (cfg0.win (0 : Fin 2)).fetch t = true := by rw [only_t₀ t]; rfl

/-- A whole staging buffer held at contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

/-! ## The body's obligation -/

variable (K : Dev nD × Option (Fin 4 × Fin 8) → ℕ)

omit [FloatOps F] in
/-- A family of entailments from a fact all share. -/
theorem each_with {I : Type} [DecidableEq I] (s : Finset I) (R : sProp 𝕄) [BI.Persistent R] (Φ Ψ : I → sProp 𝕄)
    (h : ∀ i ∈ s, iprop(R ∗ Φ i) ⊢ Ψ i) : iprop(R ∗ bigSep s Φ) ⊢ bigSep s Ψ := by
  refine (sep_mono_left (BI.bigSep_of_persistent s R)).trans ?_
  rw [← bigSep_sep']
  exact bigSep_mono h

omit [FloatOps F] in
/-- The cells of one array of a device, all past their one round, close. -/
theorem close_array (c : Dev nD) (a : Fin 4) :
    iprop(shared m ρ K ∗ chunks (fun k => atPos ER (dCell c a k) 1 ∅ 0)) ⊢ |={Set.univ}=> chunks (fun k => semVal (dCell c a k) 0) :=
  (each_with Finset.univ (shared m ρ K) _ (fun k => iprop(|={Set.univ}=> semVal (dCell c a k) 0)) fun k _ =>
    (sep_mono_left (shared_inv_dma m ρ K c a k)).trans
      (Rounds.cell_close ER (sched m ρ) (Set.mem_univ (K (c, some (a, k)))) (fun h => h) (R := 1) (duties_later m ρ (dCell c a k)))).trans (bigSep_fupd _ _)
omit [FloatOps F] in
theorem close_bar (c : Dev nD) :
    iprop(shared m ρ K ∗ atPos ER (barCell c) 1 ∅ 0) ⊢ |={Set.univ}=> semVal (barCell c) 0 :=
  (sep_mono_left (shared_inv_bar m ρ K c)).trans
    (Rounds.cell_close ER (sched m ρ) (Set.mem_univ (K (c, none))) (fun h => h) (R := 1) (duties_later m ρ (barCell c)))

def bodyPre (c : Dev nD) : sProp 𝕄 :=
  iprop(Φ₀ m ρ c ∗ (dats m ρ 0 c).owesAt () t₀.castSucc
    ∗ (∃ d, held c cc0_stg0_0 ((dats m ρ 0 c).before (0 : Fin 2) t₀ d))
    ∗ (∃ d, held c cc0_stg1_0 ((dats m ρ 0 c).before (1 : Fin 2) t₀ d)))
def bodyPost (c : Dev nD) : sProp 𝕄 :=
  iprop(Φ₁ c ∗ (dats m ρ 0 c).owesAt () t₀.succ ∗ held c cc0_stg0_0 (xstg m ρ c) ∗ held c cc0_stg1_0 (outAt m ρ c))

/-- The body from the device's number on, between its buffers whole. -/
theorem sound_after (c : Dev nD) : bodyPre m ρ c ⊢ WP c (bodyAfter c) fun _ => bodyPost m ρ c := by
  unfold bodyPre Φ₀ start scratch
  iintro ⟨⟨⟨⟨%K, #HS⟩, Hat, Htok, Hcr⟩, ⟨%f0, Hs0⟩, ⟨%f1, Hs1⟩⟩, Ho, ⟨%d0, %g0, %hg0, Hx⟩, ⟨%d1, %g1, %hg1, Hout⟩⟩
  have hx : g0 = xstg m ρ c := by rw [hg0]; unfold Dat.before; rw [if_pos (fetch_in t₀)]; rfl
  subst hx
  unfold Dat.owesAt Pipeline.owesWithin
  icases Ho with ⟨%W, %hW, HO⟩
  rw [show (dats m ρ 0 c).owed t₀.castSucc = O₀ c from rfl]
  ihave Hx := (x_pieces m ρ c).1 $$ Hx
  icases Hx with ⟨Hx, Hxs, Hoff⟩
  ihave Hs0 := (Entails.of_eq (xr_chunks c fullShare f0)) $$ Hs0
  ihave Hs1 := (Entails.of_eq (yr_chunks c fullShare f1)) $$ Hs1
  iapply (wp_fupd frame (wpE (defs₀ (F := F)) 𝒱₀ (c : Thread nD τ) none) Set.univ)
  iapply (wp_wand_r frame (wpE (defs₀ (F := F)) 𝒱₀ (c : Thread nD τ) none) Set.univ)
  isplitl [Hat Htok Hcr Hs0 Hs1 HO Hx Hxs Hout]
  · iapply (run_body m ρ K c)
    isplitr; · iexact HS
    isplitl [HO]; · unfold owesE; iexists W; iexact HO
    isplitl [Hat]; · iexact Hat
    isplitl [Htok]; · iexact Htok
    isplitl [Hcr]; · iexact Hcr
    isplitl [Hs0]
    · unfold barPayX; rw [xp_xp]
      iapply (show (chunks (fun k => xrPt c k fullShare f0) : sProp 𝕄) ⊢ chunks (fun k => iprop(∃ f, xrPt c k fullShare f)) from
        bigSep_mono fun k _ => exists_intro (Φ := fun f => (xrPt c k fullShare f : sProp 𝕄)) f0)
      iexact Hs0
    isplitl [Hs1]
    · unfold barPayY; rw [yp_yp]
      iapply (show (chunks (fun k => yrPt c k fullShare f1) : sProp 𝕄) ⊢ chunks (fun k => iprop(∃ f, yrPt c k fullShare f)) from
        bigSep_mono fun k _ => exists_intro (Φ := fun f => (yrPt c k fullShare f : sProp 𝕄)) f1)
      iexact Hs1
    isplitl [Hxs]; · iexact Hxs
    isplitl [Hx]; · iexact Hx
    unfold outWith
    iexists g1; isplitr; · ipureintro; exact True.intro
    iexact Hout
  unfold posns outWith owesE
  iintro %_ ⟨⟨%W', HO⟩, ⟨HaB, Ha0, Ha1, Ha2, Ha3⟩, ⟨Hxs, Hx⟩, ⟨%f, %hf, Hout⟩, Hl, Hr, Hy⟩
  imod (close_bar m ρ K c) $$ [HaB] with HzB
  · isplitr; · iexact HS
    iexact HaB
  imod (close_array m ρ K c 0) $$ [Ha0] with Hz0
  · isplitr; · iexact HS
    iexact Ha0
  imod (close_array m ρ K c 1) $$ [Ha1] with Hz1
  · isplitr; · iexact HS
    iexact Ha1
  imod (close_array m ρ K c 2) $$ [Ha2] with Hz2
  · isplitr; · iexact HS
    iexact Ha2
  imod (close_array m ρ K c 3) $$ [Ha3] with Hz3
  · isplitr; · iexact HS
    iexact Ha3
  imodintro
  unfold bodyPost Φ₁ ownZero scratch Dat.owesAt Pipeline.owesWithin
  rw [show (dats m ρ 0 c).owed t₀.succ = 0 from rfl]
  isplitl [Hl Hr Hy HzB Hz0 Hz1 Hz2 Hz3]
  · isplitl [Hl Hr Hy]
    · isplitl [Hl Hr]
      · iexists (xrf m ρ c)
        iapply (pointsTo_share (PosShare.mem_left_op_right fullShare)).2
        rw [xr_chunks, xr_chunks]
        isplitl [Hl] <;> iassumption
      · iexists (yrf m ρ c)
        rw [yr_chunks]; iexact Hy
    isplitl [HzB]; · iexact HzB
    isplitl [Hz0]; · iexact Hz0
    isplitl [Hz1]; · iexact Hz1
    isplitl [Hz2] <;> iassumption
  isplitl [HO]
  · iexists W'
    isplitr; · ipureintro; exact fun _ _ => Or.inl trivial
    iexact HO
  isplitl [Hx Hxs Hoff]
  · iexists _; isplitr; · (ipureintro; rfl)
    iapply (x_pieces m ρ c).2
    isplitl [Hx]; · iexact Hx
    isplitl [Hxs] <;> iassumption
  iexists f; isplitr; · ipureintro; exact othDone_eq m ρ c f hf
  iexact Hout

set_option maxRecDepth 8000 in
/-- The obligation the pipeline asks of the body. -/
theorem body_obligation (c : Dev nD) : BodyObligation (dats (F := F) m ρ 0 c) (defs₀ (F := F)) 𝒱₀ () Set.univ := fun t => by
  rw [only_t₀ t]
  rw [bigSep_W0, bigSep_W0]
  simp only [owns_held]
  show bodyPre m ρ c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  rw [body_eq]
  simp only [wp_deviceId]
  exact sound_after m ρ c

end Cert.AllReduce
-- ==== Proof.Launch.lean ====
/-
# The launch

How the protocol's ghost state is made from the semaphores at zero and dealt to the sixteen devices: the invariants and
the positions of the thirty-three cells of every device, the duty tokens to the devices that pay them, and the credit each
device is owed. Then the run of the whole program.
-/
module

public import proofs.«01_k».proof.Proof.Run
public import Idealize.ShloMosaic.Lib.Pipeline.CollectiveSegs
public import Idealize.ShloMosaic.Lib.Quiescent

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells -/

/-- The semaphores of the protocol other than the barrier, by array and chunk, are distinct from each other and from the
    barrier's. -/
theorem csem_injective : Function.Injective csem := by
  rintro (_ | ⟨a, k⟩) (_ | ⟨a', k'⟩) h
  · rfl
  · cases h
  · cases h
  · obtain ⟨h1, h2⟩ := dq_inj (SemLoc.dma.inj h)
    exact congrArg some (Prod.ext h1 h2)

theorem kcell_injective : Function.Injective kcell := by
  rintro ⟨c, o⟩ ⟨c', o'⟩ h
  have h1 : c = c' := congrArg (fun g : GSem nD τ sig => g.1.1) h
  have h2 : o = o' := csem_injective (congrArg Prod.snd h)
  rw [h1, h2]

omit [FloatOps F] in
/-- A family over the four arrays of eight, array by array. -/
theorem sep_arrays (Φ : Fin 4 × Fin 8 → sProp 𝕄) : bigSep Finset.univ Φ
    = iprop(chunks (fun k => Φ (0, k)) ∗ chunks (fun k => Φ (1, k)) ∗ chunks (fun k => Φ (2, k)) ∗ chunks (fun k => Φ (3, k))) := by
  rw [bigSep_univ_prod]
  exact bigSep_univ_eq_bigSepL [0, 1, 2, 3] (by decide) (by decide) _

omit [FloatOps F] in
/-- A family over all cells of a device: the barrier's, then the arrays'. -/
theorem sep_cells (Φ : Option (Fin 4 × Fin 8) → sProp 𝕄) : bigSep Finset.univ Φ
    = iprop(Φ none ∗ chunks (fun k => Φ (some (0, k))) ∗ chunks (fun k => Φ (some (1, k))) ∗ chunks (fun k => Φ (some (2, k)))
        ∗ chunks (fun k => Φ (some (3, k)))) := by
  have h : (Finset.univ : Finset (Option (Fin 4 × Fin 8))).erase none = Finset.univ.map Function.Embedding.some := by
    ext o; cases o <;> simp
  rw [bigSep_univ_at Φ none, h, bigSep_map, sep_arrays]
  rfl

/-! ## The ghost state at launch -/

def allCells : Finset (GSem nD τ sig) := Finset.univ.map ⟨kcell, kcell_injective⟩

/-- The duties of one device's cells: the two of its barrier, one for each of its other cells. -/
abbrev Duty : Type := Bool ⊕ (Fin 4 × Fin 8)
def dutyAt (x : Dev nD × Duty) : GSem nD τ sig × ℕ × Bool :=
  match x.2 with
  | .inl b => (barCell x.1, 0, b)
  | .inr p => (dCell x.1 p.1 p.2, 0, false)
theorem dutyAt_injective : Function.Injective dutyAt := by
  rintro ⟨c, b | ⟨a, k⟩⟩ ⟨c', b' | ⟨a', k'⟩⟩ h
  · have h1 : c = c' := congrArg (fun x : GSem nD τ sig × ℕ × Bool => x.1.1.1) h
    have h2 : b = b' := congrArg (fun x : GSem nD τ sig × ℕ × Bool => x.2.2) h
    rw [h1, h2]
  · have h3 := congrArg (fun x : GSem nD τ sig × ℕ × Bool => x.1.2) h; cases h3
  · have h3 := congrArg (fun x : GSem nD τ sig × ℕ × Bool => x.1.2) h; cases h3
  · have h1 : c = c' := congrArg (fun x : GSem nD τ sig × ℕ × Bool => x.1.1.1) h
    obtain ⟨h2, h3⟩ := dq_inj (SemLoc.dma.inj (congrArg (fun x : GSem nD τ sig × ℕ × Bool => x.1.2) h))
    exact Prod.ext h1 (congrArg Sum.inr (Prod.ext h2 h3))
def allDuties : Finset (GSem nD τ sig × ℕ × Bool) := Finset.univ.map ⟨dutyAt, dutyAt_injective⟩

/-- The launch element: the staging pipeline's and the protocol's. -/
def u₀ : UU := (initOf (Pipeline.cells cfgs cellOf_inj) (Pipeline.launchToks cfgs cellOf_inj), initOf allCells allDuties)

/-- The tokens of the duties of device `c`'s own cells. -/
def ownToks (c : Dev nD) : sProp 𝕄 :=
  iprop((dutyTok ER (barCell c) 0 false ∗ dutyTok ER (barCell c) 0 true)
    ∗ chunks (fun k => dutyTok ER (dCell c 0 k) 0 false) ∗ chunks (fun k => dutyTok ER (dCell c 1 k) 0 false)
    ∗ chunks (fun k => dutyTok ER (dCell c 2 k) 0 false) ∗ chunks (fun k => dutyTok ER (dCell c 3 k) 0 false))

/-- What the launch element gives device `c`: its cells' states, positions and round records, and its own tokens. -/
def G (c : Dev nD) : sProp 𝕄 :=
  iprop((bigSep Finset.univ fun o => roundState ER (sched m ρ) (kcell (c, o)) 0)
    ∗ (bigSep Finset.univ fun o => atPos ER (kcell (c, o)) 0 ∅ 0) ∗ (bigSep Finset.univ fun o => reached ER (kcell (c, o)) 0) ∗ ownToks c)

/-- Every cell's invariant, and that it is at its first round. -/
def records (K : Dev nD × Option (Fin 4 × Fin 8) → ℕ) : sProp 𝕄 :=
  iprop((bigSep Finset.univ fun x => cellInv ER (sched m ρ) (K x) (kcell x)) ∗ (bigSep Finset.univ fun x => reached ER (kcell x) 0))
instance records_persistent (K) : BI.Persistent (records m ρ K) := by unfold records; infer_instance

/-- What device `c` has once the cells' invariants stand: the records, its positions, the tokens of the duties it pays. -/
def G' (c : Dev nD) : sProp 𝕄 := iprop((∃ K, records m ρ K) ∗ posns c 0 ∗ payToks c)

omit [FloatOps F] in
theorem sep_allCells (Φ : GSem nD τ sig → sProp 𝕄) :
    bigSep allCells Φ = bigSep Finset.univ fun c : Dev nD => bigSep Finset.univ fun o => Φ (kcell (c, o)) := by
  unfold allCells; rw [bigSep_map, bigSep_univ_prod]; rfl

omit [FloatOps F] in
theorem sep_allDuties :
    bigSep allDuties (fun x => (dutyTok ER x.1 x.2.1 x.2.2 : sProp 𝕄)) = bigSep Finset.univ fun c : Dev nD => ownToks c := by
  unfold allDuties; rw [bigSep_map, bigSep_univ_prod]
  refine bigSep_congr fun c _ => ?_
  rw [bigSep_univ_sum, sep_arrays, bigSep_univ_eq_bigSepL [false, true] (by decide) (by decide), bigSepL_cons_cons, bigSepL_singleton]
  rfl

omit [FloatOps F] in
/-- The launch element's share of the protocol, dealt to the devices. -/
theorem fund : BI.own (ER (initOf allCells allDuties)) ⊢ (|==> bigSep Finset.univ (G m ρ) : sProp 𝕄) := by
  iintro HX
  imod (Rounds.fund ER (sched m ρ) allCells allDuties) $$ HX with ⟨Hst, Hr, Hat, Htok⟩
  imodintro
  ihave Hst := (Entails.of_eq (sep_allCells fun g => roundState ER (sched m ρ) g 0)) $$ Hst
  ihave Hat := (Entails.of_eq (sep_allCells fun g => atPos ER g 0 ∅ 0)) $$ Hat
  ihave Hr := (Entails.of_eq (sep_allCells fun g => reached ER g 0)) $$ Hr
  ihave Htok := (Entails.of_eq sep_allDuties) $$ Htok
  unfold G; simp only [bigSep_sep']
  isplitl [Hst]; · iexact Hst
  isplitl [Hat]; · iexact Hat
  isplitl [Hr] <;> iassumption

/-! ## The semaphores at zero -/

theorem ownSemFacts : Pipeline.OwnSemFacts cfg0.spec osem := by decide

omit [FloatOps F] in
theorem ownSems0_eq (c : Dev nD) :
    (Pipeline.ownSems0 (Ix := Unit) (Name := ℕ) (U := UU) (Lvl := ℕ) (Val := Elt F) (τ := τ) osem c : sProp 𝕄) = ownZero c := by
  unfold Pipeline.ownSems0; rw [sep_arrays]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are the thirty-three cells of the device at zero. -/
theorem zeros (c : Dev nD) :
    iprop(Pipeline.ownSems0 (Ix := Unit) (Name := ℕ) (U := UU) (Lvl := ℕ) (Val := Elt F) (τ := τ) osem c ∗ unscopedSems0 c)
      ⊢ (bigSep Finset.univ fun o => semVal (kcell (c, o)) 0 : sProp 𝕄) := by
  rw [ownSems0_eq, unscopedSems0_eq, sep_cells]
  iintro ⟨HO, HB⟩
  isplitl [HB]; · iexact HB
  unfold ownZero; iexact HO

omit [FloatOps F] in
/-- The cells of device `c` put under their invariants. -/
theorem enclose (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o => iprop(∃ κ : ℕ, cellInv ER (sched m ρ) κ (kcell (c, o))))
          ∗ (bigSep Finset.univ fun o => atPos ER (kcell (c, o)) 0 ∅ 0) ∗ (bigSep Finset.univ fun o => reached ER (kcell (c, o)) 0) ∗ ownToks c) := by
  unfold G
  iintro ⟨Hos, Hus, Hst, Hrest⟩
  ihave Hv := (zeros (F := F) c) $$ [Hos Hus]
  · isplitl [Hos] <;> iassumption
  imod (show iprop((bigSep Finset.univ fun o => semVal (kcell (c, o)) 0) ∗ bigSep Finset.univ fun o => roundState ER (sched m ρ) (kcell (c, o)) 0)
      ⊢ (|={Set.univ}=> bigSep Finset.univ fun o => iprop(∃ κ : ℕ, cellInv ER (sched m ρ) κ (kcell (c, o))) : sProp 𝕄) from by
        rw [← bigSep_sep']
        exact (bigSep_mono fun o _ => (Rounds.body_intro ER (sched m ρ) (kcell (c, o))).trans inv_alloc).trans (bigSep_fupd _ _)) $$ [Hv Hst] with Hinv
  · isplitl [Hv] <;> iassumption
  imodintro
  isplitl [Hinv]; · iexact Hinv
  iexact Hrest

omit [FloatOps F] in
/-- The tokens, from the devices whose cells they are of to the devices that pay them. -/
theorem deal_toks : (bigSep Finset.univ fun c : Dev nD => (ownToks c : sProp 𝕄)) ⊢ bigSep Finset.univ fun c : Dev nD => payToks c := by
  unfold ownToks payToks
  simp only [bigSep_sep']
  rw [bigSep_univ_equiv xEquiv (fun c : Dev nD => (dutyTok ER (barCell c) 0 false : sProp 𝕄)),
    bigSep_univ_equiv yEquiv (fun c : Dev nD => (dutyTok ER (barCell c) 0 true : sProp 𝕄)),
    bigSep_univ_equiv xEquiv (fun c : Dev nD => (chunks (fun k => dutyTok ER (dCell c 1 k) 0 false) : sProp 𝕄)),
    bigSep_univ_equiv yEquiv (fun c : Dev nD => (chunks (fun k => dutyTok ER (dCell c 3 k) 0 false) : sProp 𝕄))]
  exact Entails.of_eq rfl

omit [FloatOps F] in
theorem posns_intro (c : Dev nD) : (bigSep Finset.univ fun o => (atPos ER (kcell (c, o)) 0 ∅ 0 : sProp 𝕄)) ⊢ posns c 0 := by
  rw [sep_cells]; exact Entails.of_eq rfl

omit [FloatOps F] in
theorem deal :
    (bigSep Finset.univ fun c : Dev nD => iprop((bigSep Finset.univ fun o => iprop(∃ κ : ℕ, cellInv ER (sched m ρ) κ (kcell (c, o))))
          ∗ (bigSep Finset.univ fun o => atPos ER (kcell (c, o)) 0 ∅ 0) ∗ (bigSep Finset.univ fun o => reached ER (kcell (c, o)) 0) ∗ ownToks c) : sProp 𝕄)
      ⊢ bigSep Finset.univ (G' m ρ) := by
  rw [bigSep_sep', bigSep_sep', bigSep_sep',
    ← bigSep_univ_prod (fun x : Dev nD × Option (Fin 4 × Fin 8) => iprop(∃ κ : ℕ, cellInv ER (sched m ρ) κ (kcell x))),
    ← bigSep_univ_prod (fun x : Dev nD × Option (Fin 4 × Fin 8) => (reached ER (kcell x) 0 : sProp 𝕄))]
  iintro ⟨HI, Hat, #HR, Htok⟩
  ihave HK := (BI.bigSep_exists_pi Finset.univ (fun (x : Dev nD × Option (Fin 4 × Fin 8)) (κ : ℕ) => (cellInv ER (sched m ρ) κ (kcell x) : sProp 𝕄))) $$ HI
  icases HK with ⟨%K, #HI⟩
  ihave Htok := (deal_toks (F := F)) $$ Htok
  ihave Hat := (show (bigSep Finset.univ fun c : Dev nD => bigSep Finset.univ fun o => (atPos ER (kcell (c, o)) 0 ∅ 0 : sProp 𝕄))
      ⊢ bigSep Finset.univ fun c : Dev nD => posns c 0 from bigSep_mono fun c _ => posns_intro c) $$ Hat
  iapply (each_with Finset.univ (records m ρ K) (fun c : Dev nD => iprop(posns c 0 ∗ payToks c)) (G' m ρ) (fun c _ => by
    unfold G'
    iintro ⟨#H, H1, H2⟩
    isplitr; · iexists K; iexact H
    isplitl [H1] <;> iassumption))
  isplitr
  · unfold records; isplitl; · iexact HI
    iexact HR
  · rw [bigSep_sep']
    isplitl [Hat] <;> iassumption

omit [FloatOps F] in
/-- The global step: every device's semaphores at zero under invariants, the tokens with the devices that pay. -/
theorem glob :
    (bigSep Finset.univ fun c => iprop(Pipeline.ownSems0 (Ix := Unit) (Name := ℕ) (U := UU) (Lvl := ℕ) (Val := Elt F) (τ := τ) osem c
        ∗ unscopedSems0 c ∗ G m ρ c) : sProp 𝕄) ⊢ |={Set.univ}=> bigSep Finset.univ (G' m ρ) :=
  ((bigSep_mono fun c _ => enclose m ρ c).trans (bigSep_fupd _ _)).trans (BI.fupd_mono (deal m ρ))

/-! ## The credit at launch -/

theorem dCell_eq {c c' : Dev nD} {a a' : Fin 4} {k k' : Fin 8} (h : dCell c a k = dCell c' a' k') : c = c' ∧ a = a' ∧ k = k' :=
  ⟨congrArg (fun g : GSem nD τ sig => g.1.1) h, dq_inj (SemLoc.dma.inj (congrArg Prod.snd h))⟩
theorem tally_dCell (c c' : Dev nD) (a a' : Fin 4) (k k' : Fin 8) (w : ℕ) :
    (tallyAt (dCell c' a' k') () w : CellTallies nD τ sig Unit) (dCell c a k) () = if c = c' ∧ a = a' ∧ k = k' then w else 0 := by
  rw [tallyAt_apply]
  by_cases h : c = c' ∧ a = a' ∧ k = k'
  · obtain ⟨rfl, rfl, rfl⟩ := h; rw [if_pos ⟨rfl, rfl⟩, if_pos ⟨rfl, rfl, rfl⟩]
  · rw [if_neg h, if_neg fun h' => h (dCell_eq h'.1)]
theorem tally_bar_dCell (c c' : Dev nD) (a : Fin 4) (k : Fin 8) (w : ℕ) :
    (tallyAt (barCell c') () w : CellTallies nD τ sig Unit) (dCell c a k) () = 0 := by
  rw [tallyAt_apply]; exact if_neg fun h => by have := congrArg Prod.snd h.1; cases this
theorem tally_dCell_bar (c c' : Dev nD) (a : Fin 4) (k : Fin 8) (w : ℕ) :
    (tallyAt (dCell c' a k) () w : CellTallies nD τ sig Unit) (barCell c) () = 0 := by
  rw [tallyAt_apply]; exact if_neg fun h => by have := congrArg Prod.snd h.1; cases this
theorem tally_bar (c c' : Dev nD) (w : ℕ) :
    (tallyAt (barCell c') () w : CellTallies nD τ sig Unit) (barCell c) () = if c = c' then w else 0 := by
  rw [tallyAt_apply]
  by_cases h : c = c'
  · subst h; rw [if_pos ⟨rfl, rfl⟩, if_pos rfl]
  · rw [if_neg h, if_neg fun h' => h (congrArg (fun g : GSem nD τ sig => g.1.1) h'.1)]

/-- One tally for each chunk of an array, at a cell of the device. -/
theorem sum_tally (c c' : Dev nD) (a a' : Fin 4) (k : Fin 8) :
    (∑ j : Fin 8 with 0 ≤ j.val, (tallyAt (dCell c' a' j) () N : CellTallies nD τ sig Unit)) (dCell c a k) () = if c = c' ∧ a = a' then N else 0 := by
  rw [Finset.sum_apply, Finsupp.finset_sum_apply, Finset.sum_congr rfl fun j _ => tally_dCell c c' a a' k j N]
  by_cases h : c = c' ∧ a = a'
  · rw [if_pos h, Finset.sum_congr rfl fun j _ => if_congr (show (c = c' ∧ a = a' ∧ k = j) ↔ k = j from ⟨fun x => x.2.2, fun x => ⟨h.1, h.2, x⟩⟩) rfl rfl,
      Finset.sum_ite_eq]
    exact if_pos (Finset.mem_filter.mpr ⟨Finset.mem_univ k, Nat.zero_le _⟩)
  · rw [if_neg h]; exact Finset.sum_eq_zero fun j _ => if_neg fun x => h ⟨x.1, x.2.1⟩
theorem sum_tally_bar (c c' : Dev nD) (a' : Fin 4) :
    (∑ j : Fin 8 with 0 ≤ j.val, (tallyAt (dCell c' a' j) () N : CellTallies nD τ sig Unit)) (barCell c) () = 0 := by
  rw [Finset.sum_apply, Finsupp.finset_sum_apply]
  exact Finset.sum_eq_zero fun j _ => tally_dCell_bar c c' a' j N

theorem eq_xp_iff (c d : Dev nD) : c = xp d ↔ d = xp c := ⟨fun h => by rw [h, xp_xp], fun h => by rw [h, xp_xp]⟩
theorem eq_yp_iff (c d : Dev nD) : c = yp d ↔ d = yp c := ⟨fun h => by rw [h, yp_yp], fun h => by rw [h, yp_yp]⟩

/-- What device `d` owes device `c`'s barrier: one unit if `d` is a peer along x, one if along y. -/
theorem owed_bar (d c : Dev nD) : O₀ d (barCell c) () = (if d = yp c then 1 else 0) + (if d = xp c then 1 else 0) := by
  unfold O₀ O₁ OX OY
  simp only [Pi.add_apply, Finsupp.add_apply]
  rw [sum_tally_bar, sum_tally_bar, tally_bar, tally_bar]
  simp only [eq_xp_iff c d, eq_yp_iff c d, Nat.zero_add]
/-- What device `d` owes a cell of device `c`'s arrays: a chunk's credit if it sends there. -/
theorem owed_dma (d c : Dev nD) (a : Fin 4) (k : Fin 8) :
    O₀ d (dCell c a k) () = (if d = xp c ∧ a = 1 then N else 0) + (if d = yp c ∧ a = 3 then N else 0) := by
  unfold O₀ O₁ OX OY
  simp only [Pi.add_apply, Finsupp.add_apply]
  rw [sum_tally, sum_tally, tally_bar_dCell, tally_bar_dCell]
  simp only [eq_xp_iff c d, eq_yp_iff c d, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1, if_pos (Finset.mem_univ _), if_pos (Finset.mem_univ _)]
theorem launch_x (c : Dev nD) (k : Fin 8) :
    tallyOn (dCell c 1 k) (launchCredit (Pipeline.owing O₀) 0 (dCell c 1 k)) = (tallyAt (dCell c 1 k) () N : CellTallies nD τ sig Unit) := by
  unfold tallyAt; refine congrArg _ (Finsupp.ext fun u => ?_); cases u
  have h : ∀ d : Dev nD, O₀ d (dCell c 1 k) () = if d = xp c then N else 0 := fun d => by
    rw [owed_dma, if_neg (show ¬ (d = yp c ∧ (1 : Fin 4) = 3) from fun h => absurd h.2 (by decide)), Nat.add_zero]
    exact if_congr ⟨fun h => h.1, fun h => ⟨h, rfl⟩⟩ rfl rfl
  rw [Pipeline.launchCredit_owing, Finsupp.single_eq_same, Finset.sum_congr rfl fun d _ => h d, Finset.sum_ite_eq' Finset.univ (xp c) fun _ => N,
    if_pos (Finset.mem_univ _)]
theorem launch_y (c : Dev nD) (k : Fin 8) :
    tallyOn (dCell c 3 k) (launchCredit (Pipeline.owing O₀) 0 (dCell c 3 k)) = (tallyAt (dCell c 3 k) () N : CellTallies nD τ sig Unit) := by
  unfold tallyAt; refine congrArg _ (Finsupp.ext fun u => ?_); cases u
  have h : ∀ d : Dev nD, O₀ d (dCell c 3 k) () = if d = yp c then N else 0 := fun d => by
    rw [owed_dma, if_neg (show ¬ (d = xp c ∧ (3 : Fin 4) = 1) from fun h => absurd h.2 (by decide)), Nat.zero_add]
    exact if_congr ⟨fun h => h.1, fun h => ⟨h, rfl⟩⟩ rfl rfl
  rw [Pipeline.launchCredit_owing, Finsupp.single_eq_same, Finset.sum_congr rfl fun d _ => h d, Finset.sum_ite_eq' Finset.univ (yp c) fun _ => N,
    if_pos (Finset.mem_univ _)]

omit [FloatOps F] in
/-- The launch's credit to device `c`, as the body takes it. -/
theorem launch_creds (c : Dev nD) : (Pipeline.launchCred O₀ c : sProp 𝕄) ⊢ creds0 c := by
  unfold Pipeline.launchCred
  refine (bigSep_subset (Finset.subset_univ (Finset.univ.map ⟨csem, csem_injective⟩))).trans ?_
  rw [bigSep_map, sep_cells]
  unfold creds0
  rw [← launch_bar]
  simp only [← launch_x, ← launch_y]
  show (iprop(cred (tallyOn (barCell c) (launchCredit (owing O₀) 0 (barCell c))) ∗ chunks (fun k => cred (tallyOn (dCell c 0 k) (launchCredit (owing O₀) 0 (dCell c 0 k))))
      ∗ chunks (fun k => cred (tallyOn (dCell c 1 k) (launchCredit (owing O₀) 0 (dCell c 1 k))))
      ∗ chunks (fun k => cred (tallyOn (dCell c 2 k) (launchCredit (owing O₀) 0 (dCell c 2 k))))
      ∗ chunks (fun k => cred (tallyOn (dCell c 3 k) (launchCredit (owing O₀) 0 (dCell c 3 k))))) : sProp 𝕄) ⊢ _
  iintro ⟨HB, -, H1, -, H3⟩
  isplitl [HB]; · iexact HB
  isplitl [H1]; · iexact H1
  iexact H3

/-! ## The launch theorem's side conditions -/

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [show (levAts L lv : sProp 𝕄) = levS by unfold levS; rfl]
  unfold G'
  iintro ⟨-, Hlev, Hcr, -, ⟨%K, HK⟩, Hat, Htok⟩
  ihave Hcr := (launch_creds (F := F) c) $$ Hcr
  imodintro
  unfold start shared records
  isplitl
  · isplitl [HK Hlev]
    · iexists K
      isplitl [HK] <;> iassumption
    isplitl [Hat]; · iexact Hat
    isplitl [Htok] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HB, HO⟩
  isplitl [HB]; · iexact HB
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> decide) _ (by
      rcases t with ⟨_ | _, ht⟩
      · exact above_O₀ c
      · exact Above.zero 0)

/-! ## The run -/

/-- What a window's array holds on device `c` after the run. -/
def finalA (c : Dev nD) (w : Fin cfg0.W) : Buf (Elt F) ((cfg0.win w).arr.view.loc (c : Thread nD τ)) := (dats m ρ 0 c).arrAt w cfg0.N

/-- Every window's array holds its final contents, on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with zero counters, every fair execution of the kernel on the sixteen devices
    ends, with each device's arrays at their final contents and every counter at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run holds what it held. -/
theorem finalA_x (c : Dev nD) : finalA m ρ c (0 : Fin 2) = (st₀ m ρ).mem (win0_0.arr.view.loc (c : Thread nD τ)) :=
  (dats (F := F) m ρ 0 c).arrAt_in (0 : Fin 2) rfl _

end Cert.AllReduce
-- ==== Proof.Value.lean ====
/-
# The value

After the run each device's result array holds, at every row and column of its block, its own input plus the one of a
device with the other x coordinate; and that is the block of the sum of the whole input over its first axis.
-/
module

public import proofs.«01_k».proof.Defs
public import proofs.«01_k».proof.Proof.Launch
public import proofs.«01_k».proof.Proof.Gen.KernelIdeal.Points
public import proofs.«01_k».proof.Proof.Gen.Kernel
public import proofs.«01_k».proof.Proof.Gen.ReferenceIdeal.Run
public import Idealize.ShloMosaic.Lib.Pointwise.Reduce
public import Idealize.ShloMosaic.PureOps.Ideal.Laws

@[expose] public section

noncomputable section

namespace Cert.AllReduce

open Cert.KernelIdeal Cert.KernelIdeal.Gen
open Idealize.ShloMosaic
open Idealize.ShloMosaic.TcCoe
open Idealize.SL.Sem

section Final
variable {F : FTy → Type} [FloatOps F]
variable (m : (ℓ : Loc nD τ sig) → Buf (Elt F) ℓ) (ρ : Dev nD → PrngReg)

/-- The result array after the run. -/
theorem finalA_out (c : Dev nD) : finalA m ρ c (1 : Fin 2) = outAt m ρ c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  refine (hr _).symm.trans ?_
  show (win0_1.blk (0 : Fin 1)).view.read (Elt F) (finalA m ρ c (1 : Fin 2)) = outAt m ρ c
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from flush0_1 _, if_pos rfl]
  exact View.read_write_univ _ _

/-- The staged input is the input array. -/
theorem xstg_arr (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

end Final

/-! ## Against the whole input -/

/-- The whole input of the reference. -/
abbrev Whole : Type := (⟨3, ![2, 1024, 1024]⟩ : Shape).Idx → EReal

/-- A device's x coordinate. -/
def xco (c : Dev nD) : Fin 2 := ⟨c.val / 8, by have := c.isLt; have h : nD = 16 := rfl; omega⟩

theorem xco_xp (c : Dev nD) : xco (xp c) = 1 - xco c := by revert c; decide
theorem xco_yp (c : Dev nD) : xco (yp c) = xco c := by revert c; decide
theorem xco_src (c : Dev nD) (r : ℕ) : xco (srcDev c r) = 1 - xco c := by
  unfold srcDev; split
  · exact xco_xp c
  · rw [xco_xp, xco_yp]

theorem mesh_x (c : Dev nD) : Layout.meshLin [2, 2, 4] c.val [0] = (xco c).val := by revert c; decide

/-- The index of the whole input at a plane, a row and a column. -/
def ixW (b : Fin 2) (r j : ℕ) : (⟨3, ![2, 1024, 1024]⟩ : Shape).Idx := fun a => match a with
  | ⟨0, _⟩ => b
  | ⟨1, _⟩ => ⟨r % 1024, Nat.mod_lt _ (by decide)⟩
  | ⟨2, _⟩ => ⟨j % 1024, Nat.mod_lt _ (by decide)⟩

variable (m : (ℓ : Loc nD τ sig) → Buf (Elt Ideal) ℓ) (ρ : Dev nD → PrngReg)

/-- A device's input element is the whole input's, in the plane of its x coordinate. -/
theorem xat_whole (W : Whole) (c : Dev nD)
    (h : m ((c.tc : Thread nD τ).loc main_arg0) = Layout.blockN ⟨3, ![1, 1024, 1024]⟩ ⟨3, ![2, 1024, 1024]⟩ (Layout.meshBlock [2, 2, 4] ![[0], [], []] c) W)
    (r j : ℕ) : xat m ρ c r j = W (ixW (xco c) r j) := by
  unfold xat
  rw [xstg_arr]
  refine (congrFun h (ixX r j)).trans ?_
  rw [Layout.blockN_apply]
  refine congrArg W (Shape.idx3_ext ?_ ?_ ?_)
  · rw [Layout.TilesN.idx_val]
    show Layout.meshLin [2, 2, 4] c.val [0] * 1 + 0 = (xco c).val
    rw [mesh_x]; omega
  · rw [Layout.TilesN.idx_val]
    show 0 * 1024 + r % 1024 = r % 1024
    omega
  · rw [Layout.TilesN.idx_val]
    show 0 * 1024 + j % 1024 = j % 1024
    omega

/-- The reference's result at a row and a column: the two planes' elements added. -/
theorem ref_at (W : Whole) (i : (⟨2, ![1024, 1024]⟩ : Shape).Idx) (r j : ℕ) (hr : (i 0).val = r) (hj : (i 1).val = j) :
    (Host.reduceAdd (F := Ideal) (φ := .f32) W (constant Cert.ReferenceIdeal.S_ .f32 0x00000000#32) Cert.ReferenceIdeal.Gen.reducesTo_S2x1024x1024_S1024x1024_d0 Cert.ReferenceIdeal.Gen.h_S_
      : (⟨2, ![1024, 1024]⟩ : Shape).Idx → EReal) i = W (ixW 0 r j) + W (ixW 1 r j) := by
  rw [Host.reduceAdd_apply, Ideal.hostReduceAdd_def, Ideal.hostReduceAdd_r3_a0, Fin.sum_univ_two]
  have h0 : (i 0).val < 1024 := (i 0).isLt
  have h1 : (i 1).val < 1024 := (i 1).isLt
  have e : ∀ b : Fin 2, ∀ y : (⟨3, ![2, 1024, 1024]⟩ : Shape).Idx, (y 0).val = b.val → (y 1).val = r → (y 2).val = j → W y = W (ixW b r j) :=
    fun b y e0 e1 e2 => congrArg W (Shape.idx3_ext e0 (e1.trans (Nat.mod_eq_of_lt (by omega)).symm) (e2.trans (Nat.mod_eq_of_lt (by omega)).symm))
  refine (congrArg₂ (fun p q : EReal => p + q) (?_ : _ = (0 : EReal))
    (congrArg₂ (fun p q : EReal => p + q) (e 0 _ rfl hr hj) (e 1 _ rfl hr hj))).trans (zero_add _)
  exact Ideal.ofBits_zero_f32

/-- A device's result is its block of the reference's. -/
theorem out_block (W : Whole) (v : (⟨2, ![1024, 1024]⟩ : Shape).Idx → EReal)
    (hv : ∀ (i : (⟨2, ![1024, 1024]⟩ : Shape).Idx) (r j : ℕ), (i 0).val = r → (i 1).val = j → v i = W (ixW 0 r j) + W (ixW 1 r j))
    (h : ∀ c : Dev nD, m ((c.tc : Thread nD τ).loc main_arg0) = Layout.blockN ⟨3, ![1, 1024, 1024]⟩ ⟨3, ![2, 1024, 1024]⟩ (Layout.meshBlock [2, 2, 4] ![[0], [], []] c) W)
    (c : Dev nD) :
    (outAt m ρ c : (⟨2, ![1024, 512]⟩ : Shape).Idx → EReal) = Layout.blockN ⟨2, ![1024, 512]⟩ ⟨2, ![1024, 1024]⟩ (Layout.meshBlock [2, 2, 4] ![[], [0]] c) v := by
  funext i
  rw [Layout.blockN_apply, hv _ (i 0).val (512 * (c.val / 8) + (i 1).val)
    (by rw [Layout.TilesN.idx_val]; show 0 * 1024 + (i 0).val = _; omega)
    (by rw [Layout.TilesN.idx_val]; show Layout.meshLin [2, 2, 4] c.val [0] * 512 + (i 1).val = _; rw [mesh_x]; show c.val / 8 * 512 + _ = _; omega)]
  show (xat m ρ c (i 0).val (512 * (c.val / 8) + (i 1).val) + xat m ρ (srcDev c (i 0).val) (i 0).val (512 * (c.val / 8) + (i 1).val) : EReal) = _
  rw [xat_whole m ρ W c (h c), xat_whole m ρ W _ (h _), xco_src]
  generalize xco c = b
  fin_cases b
  · rfl
  · exact add_comm _ _

/-! ## The claims -/

/-- For any float values the kernel runs, leaves its input and ends with every counter at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_x m ρ c), h.2⟩) (run_main m ρ)

/-- The kernel as printed and the kernel at exact operations have one body, and so one table of bodies. -/
theorem bodies_eq {F : FTy → Type} [FloatOps F] : Cert.Kernel.defs₀ (F := F) = Cert.KernelIdeal.defs₀ (F := F) := by
  refine congrArg Defs.onTc (funext fun l => ?_)
  match l with
  | ⟨0, _⟩ => exact funext fun _ => rfl
  | ⟨_ + 1, h⟩ => exact absurd h (Nat.not_lt.2 (Nat.le_add_left _ _))
theorem tables_eq {F : FTy → Type} [FloatOps F] : Cert.Kernel.defs (F := F) = Cert.KernelIdeal.defs (F := F) :=
  congrArg (Pipeline.defs (Cert.KernelIdeal.pcfgs (F := F))) bodies_eq

/-- The kernel as printed runs, leaves its input and ends with every counter at zero. -/
theorem frame_kernel : Cert.quiescent_Kernel := fun m ρ _ => by
  rw [tables_eq]; exact frame_any (F := Bits) m ρ

/-- The same of the kernel at exact operations. -/
theorem frame_ideal : Cert.quiescent_KernelIdeal := fun m ρ _ => frame_any (F := Ideal) m ρ

/-- The reference runs, leaves its input and has no counter that is not at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At exact operations every device's result is its block of the sum over the first axis of the whole input. -/
theorem value : Cert.algebraic_KernelIdeal_ReferenceIdeal := by
  intro m ρ m' ρ' _ h
  refine ⟨_, ?_, (θ_run Cert.ReferenceIdeal.defs _ _).mono (fun _ h => h 0) (Cert.ReferenceIdeal.Value.run (F := Ideal) m' ρ')⟩
  exact (θ_run Cert.KernelIdeal.defs _ _).mono
    (fun _ h' c => ⟨((h'.1 c (1 : Fin 2)).trans (finalA_out m ρ c)).trans (out_block m ρ _ _ (fun i r j => ref_at _ i r j) h c),
      (h'.1 c (0 : Fin 2)).trans (finalA_x m ρ c)⟩)
    (run_main (F := Ideal) m ρ)

end Cert.AllReduce
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- All five claims. -/
theorem claim : Cert.Claim :=
  ⟨Cert.Kernel.Gen.facts, Cert.KernelIdeal.Gen.facts, Cert.ReferenceIdeal.Gen.facts,
    Cert.AllReduce.frame_kernel, Cert.AllReduce.frame_ideal, Cert.AllReduce.frame_reference, trivial, Cert.AllReduce.value⟩

end Cert.Proof

end
